-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x31 : Shape := ⟨2, ![1024, 31]⟩
abbrev S1024x32x31 : Shape := ⟨3, ![1024, 32, 31]⟩
abbrev S1024x1x31 : Shape := ⟨3, ![1024, 1, 31]⟩

class Facts : Prop where
  slices_S1024x16384_S1024x32_0_0 : S1024x16384.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  slices_S1024x32_S1024x31_0_0 : S1024x32.Slices ![0, 0] S1024x31
  slices_S1024x32_S1024x31_0_1 : S1024x32.Slices ![0, 1] S1024x31
  bcast_S1024x31_S1024x1x31_0_2 : S1024x31.BroadcastsInDim S1024x1x31 (![0, 2] : Fin 2 → Fin S1024x1x31.rank)
  bcast_S1024x1x31_S1024x32x31_0_1_2 : S1024x1x31.BroadcastsInDim S1024x32x31 (![0, 1, 2] : Fin 3 → Fin S1024x32x31.rank)
  reducesTo_S1024x32x31_S1024x32_d2 : S1024x32x31.ReducesTo [2] S1024x32
  gather_S1024x16384_S1024x32x1_S1024x32_n_1_0_0_1_2_11_wf : GatherDims.WF S1024x16384 S1024x32x1 S1024x32 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x16384_S1024x32x1_S1024x32_n_1_0_0_1_2_11 : GatherDims S1024x16384 S1024x32x1 S1024x32 where
  offsetDims := []
  collapsedSliceDims := [1]
  operandBatchingDims := [0]
  startIndicesBatchingDims := [0]
  startIndexMap := [1]
  indexVectorDim := 2
  sliceSizes := ![1, 1]
  wf := gather_S1024x16384_S1024x32x1_S1024x32_n_1_0_0_1_2_11_wf

def fn_argsort {F : FTy → Type} [FloatOps F] (arg0 : FVec F S1024x16384 .f32) : IVec S1024x16384 32 :=
  let v0 : IVec S1024x16384 32 := iotaInDim S1024x16384 32 1
  let v1_0 : FVec F S1024x16384 .f32 := (fun x y => (Host.sort2 S1024x16384 1 comparator_f32_i32_d1 x y).1) arg0 v0
  let v1_1 : IVec S1024x16384 32 := (fun x y => (Host.sort2 S1024x16384 1 comparator_f32_i32_d1 x y).2) arg0 v0
  v1_1

def fn_take_along_axis {F : FTy → Type} [FloatOps F] (arg0 : FVec F S1024x16384 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 16384#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 16383#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x16384_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn {F : FTy → Type} [FloatOps F] (main_arg0 : FVec F S1024x16384 .f32) : IVec S1024x32 1 :=
  let main_v0 : FVec F S1024x16384 .f32 := Host.negf main_arg0
  let main_v1 : IVec S1024x16384 32 := fn_argsort (F := F) main_v0
  let main_v2 : IVec S1024x32 32 := (extractStridedSlice S1024x32 ![0, 0] · slices_S1024x16384_S1024x32_0_0) main_v1
  let main_v3 : FVec F S1024x32 .f32 := fn_take_along_axis (F := F) main_arg0 main_v2
  let main_v4 : FVec F S1024x31 .f32 := (extractStridedSlice S1024x31 ![0, 0] · slices_S1024x32_S1024x31_0_0) main_v3
  let main_v5 : FVec F S1024x31 .f32 := (extractStridedSlice S1024x31 ![0, 1] · slices_S1024x32_S1024x31_0_1) main_v3
  let main_v6 : IVec S1024x31 1 := cmpf .oeq main_v4 main_v5
  let main_v7 : IVec S1024x32x31 32 := iotaInDim S1024x32x31 32 1
  let main_v8 : IVec S1024x32x31 32 := iotaInDim S1024x32x31 32 2
  let main_v9 : IVec S1024x32x31 1 := cmpi .slt main_v8 main_v7
  let main_v10 : IVec S1024x1x31 1 := broadcastInDim S1024x1x31 ![0, 2] bcast_S1024x31_S1024x1x31_0_2 main_v6
  let main_v11 : IVec S1024x32x31 1 := broadcastInDim S1024x32x31 ![0, 1, 2] bcast_S1024x1x31_S1024x32x31_0_1_2 main_v10
  let main_v12 : IVec S1024x32x31 1 := andi main_v9 main_v11
  let main_c : IVec S_ 1 := constantI S_ 1 0#1
  let main_v13 : IVec S1024x32 1 := (fun x v => Host.reduce IntOp.ori x v reducesTo_S1024x32x31_S1024x32_d2 h_S_) main_v12 main_c
  let main_v14 : IVec S1024x32 1 := noti main_v13
  main_v14
-- ==== Kernel.lean ====
abbrev S1024x8192 : Shape := ⟨2, ![1024, 8192]⟩
abbrev S1024x32 : Shape := ⟨2, ![1024, 32]⟩
abbrev S1024x1024 : Shape := ⟨2, ![1024, 1024]⟩
abbrev S8x1024x32 : Shape := ⟨3, ![8, 1024, 32]⟩
abbrev S2x1024x32 : Shape := ⟨3, ![2, 1024, 32]⟩
abbrev S_ : Shape := ⟨0, ![]⟩
abbrev S1024 : Shape := ⟨1, ![1024]⟩
abbrev S1024x1 : Shape := ⟨2, ![1024, 1]⟩
abbrev S1x1024x32 : Shape := ⟨3, ![1, 1024, 32]⟩
abbrev S1024x256 : Shape := ⟨2, ![1024, 256]⟩
abbrev S1024x64 : Shape := ⟨2, ![1024, 64]⟩

abbrev nBuf : Space → Nat
  | .hbm => 2
  | .vmem => 5
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x1024, .f32⟩
  | .local _ .vmem, ⟨1, _⟩ => ⟨S1024x1024, .f32⟩
  | .local _ .vmem, ⟨2, _⟩ => ⟨S1024x32, .f32⟩
  | .local _ .vmem, ⟨3, _⟩ => ⟨S8x1024x32, .f32⟩
  | .local _ .vmem, ⟨4, _⟩ => ⟨S2x1024x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v191 : Index := Scalar.indexCast arg0
  let c0_63 : Index := 0#32
  let c0_64 : Index := 0#32
  ![v191.toNat, 0, 0]
def k0_cond1 (i : grid0.Coords) : BitVec 1 :=
  let arg0 : BitVec 32 := BitVec.ofNat 32 (i 0).val
  let c7_i32 : BitVec 32 := 7#32
  let v195 : BitVec 1 := Scalar.cmpi .eq arg0 c7_i32
  let v196 : BitVec 32 := Scalar.extui v195
  let c0_i32 : BitVec 32 := 0#32
  let v197 : BitVec 1 := Scalar.cmpi .ne v196 c0_i32
  v197

def k0_dev1 (d198 : Dev nD) : Nat :=
  let c0_i32_154 : BitVec 32 := 0#32
  let v198 : BitVec 32 := Dev.word d198
  let c4_i32 : BitVec 32 := 4#32
  let v199 : BitVec 32 := Scalar.divsi v198 c4_i32
  let c2_i32 : BitVec 32 := 2#32
  let v200 : BitVec 32 := Scalar.remsi v199 c2_i32
  let c4_i32_153 : BitVec 32 := 4#32
  let v418 : BitVec 32 := Scalar.muli v200 c4_i32_153
  let v419 : BitVec 32 := Scalar.addi c0_i32_154 v418
  let v201 : BitVec 32 := Dev.word d198
  let c2_i32_66 : BitVec 32 := 2#32
  let v202 : BitVec 32 := Scalar.divsi v201 c2_i32_66
  let c2_i32_65 : BitVec 32 := 2#32
  let v203 : BitVec 32 := Scalar.remsi v202 c2_i32_65
  let c2_i32_155 : BitVec 32 := 2#32
  let v420 : BitVec 32 := Scalar.muli v203 c2_i32_155
  let v421 : BitVec 32 := Scalar.addi v419 v420
  let c1_i32_68 : BitVec 32 := 1#32
  let v204 : BitVec 32 := Dev.word d198
  let c1_i32 : BitVec 32 := 1#32
  let v205 : BitVec 32 := Scalar.divsi v204 c1_i32
  let c2_i32_67 : BitVec 32 := 2#32
  let v206 : BitVec 32 := Scalar.remsi v205 c2_i32_67
  let v207 : BitVec 32 := Scalar.subi c1_i32_68 v206
  let c1_i32_156 : BitVec 32 := 1#32
  let v422 : BitVec 32 := Scalar.muli v207 c1_i32_156
  let v423 : BitVec 32 := Scalar.addi v421 v422
  v423.toNat
def k0_dev2 (d198 : Dev nD) : Nat :=
  let c0_i32_161 : BitVec 32 := 0#32
  let v198 : BitVec 32 := Dev.word d198
  let c4_i32 : BitVec 32 := 4#32
  let v199 : BitVec 32 := Scalar.divsi v198 c4_i32
  let c2_i32 : BitVec 32 := 2#32
  let v200 : BitVec 32 := Scalar.remsi v199 c2_i32
  let c4_i32_160 : BitVec 32 := 4#32
  let v424 : BitVec 32 := Scalar.muli v200 c4_i32_160
  let v425 : BitVec 32 := Scalar.addi c0_i32_161 v424
  let v201 : BitVec 32 := Dev.word d198
  let c2_i32_66 : BitVec 32 := 2#32
  let v202 : BitVec 32 := Scalar.divsi v201 c2_i32_66
  let c2_i32_65 : BitVec 32 := 2#32
  let v203 : BitVec 32 := Scalar.remsi v202 c2_i32_65
  let c2_i32_162 : BitVec 32 := 2#32
  let v426 : BitVec 32 := Scalar.muli v203 c2_i32_162
  let v427 : BitVec 32 := Scalar.addi v425 v426
  let c1_i32_68 : BitVec 32 := 1#32
  let v204 : BitVec 32 := Dev.word d198
  let c1_i32 : BitVec 32 := 1#32
  let v205 : BitVec 32 := Scalar.divsi v204 c1_i32
  let c2_i32_67 : BitVec 32 := 2#32
  let v206 : BitVec 32 := Scalar.remsi v205 c2_i32_67
  let v207 : BitVec 32 := Scalar.subi c1_i32_68 v206
  let c1_i32_163 : BitVec 32 := 1#32
  let v428 : BitVec 32 := Scalar.muli v207 c1_i32_163
  let v429 : BitVec 32 := Scalar.addi v427 v428
  v429.toNat
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Strike.lean ====
/-
# The 32 greatest distinct entries of every row, by rounds of "take the maximum, strike it out"

The kernel computes its candidates three times in one way: over a chunk of 1024 columns, over the 256 columns that
eight chunks leave, and over the 64 columns that two devices leave. This file states that computation once, at any
number of columns, and shows that the printed pieces of the kernel's body compute it.
-/
module

public import proofs.«01_k».proof.Proof.Gen.KernelIdeal.Skeleton

@[expose] public section

noncomputable section

namespace Cert.TopK

open Cert.KernelIdeal Cert.KernelIdeal.Gen
open Idealize.ShloMosaic Idealize.SL.Sem

variable {F : FTy → Type} [FloatOps F]

/-- A matrix of 1024 rows and `n` columns. -/
abbrev Wide (n : ℕ) : Shape := ⟨2, ![1024, n]⟩

/-- The two shape relations that a round needs at `n` columns: rows can be reduced, and a column can be spread. -/
structure Fits (n : ℕ) : Prop where
  red : (Wide n).Reduces [1] S1024
  spread : S1024x1.Broadcasts (Wide n)

theorem fits1024 : Fits 1024 := ⟨reduces_S1024x1024_S1024, broadcasts_S1024x1_S1024x1024⟩
theorem fits256 : Fits 256 := ⟨reduces_S1024x256_S1024, broadcasts_S1024x1_S1024x256⟩
theorem fits64 : Fits 64 := ⟨reduces_S1024x64_S1024, broadcasts_S1024x1_S1024x64⟩

variable {n : ℕ} (h : Fits n)

/-- Each row's maximum, from −∞. -/
def rowMax (x : FVec F (Wide n) .f32) : FVec F S1024 .f32 :=
  multiReduction .maximumf [1] S1024 x 0xFF800000#32 h.red (.inl rfl) rfl

/-- The same, as a column. -/
def peak (x : FVec F (Wide n) .f32) : FVec F S1024x1 .f32 := shapeCast S1024x1 (rowMax h x) shapeCasts_S1024_S1024x1

/-- Which entries equal their row's maximum. -/
def hits (x : FVec F (Wide n) .f32) : IVec (Wide n) 1 := cmpf .oeq x (broadcastTo (Wide n) (peak h x) h.spread)

/-- Every entry −∞. -/
def low (n : ℕ) : FVec F (Wide n) .f32 := broadcast (Wide n) (Scalar.ofBits .f32 0xFF800000#32)

/-- One round: every entry that equals its row's maximum becomes −∞. -/
def strike (x : FVec F (Wide n) .f32) : FVec F (Wide n) .f32 := select (hits h x) (low n) x

/-- The matrix after a number of rounds. -/
def struck (x : FVec F (Wide n) .f32) : ℕ → FVec F (Wide n) .f32
  | 0 => x
  | k + 1 => strike h (struck x k)

/-- What round `k` finds: the maxima once `k` rounds have been struck out. -/
def col (x : FVec F (Wide n) .f32) (k : ℕ) : FVec F S1024x1 .f32 := peak h (struck h x k)

theorem joins32 : Shape.Concatenates ((List.ofFn fun _ : Fin 32 => S1024x1)) S1024x32 1 :=
  concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x32_d1

/-- What 32 rounds find, side by side. -/
def best (x : FVec F (Wide n) .f32) : FVec F S1024x32 .f32 :=
  concatenate S1024x32 1 (List.ofFn fun k : Fin 32 => (⟨S1024x1, col h x k.val⟩ : (s : Shape) × (s.Idx → F .f32)))
    (by rw [List.map_ofFn]; exact joins32)

/-- Eight matrices of 32 columns side by side. -/
def join8 (f : Fin 8 → FVec F S1024x32 .f32) : FVec F S1024x256 .f32 :=
  concatenate S1024x256 1 (List.ofFn fun j : Fin 8 => (⟨S1024x32, f j⟩ : (s : Shape) × (s.Idx → F .f32)))
    (by rw [List.map_ofFn]; exact concatenates_S1024x32_S1024x32_S1024x32_S1024x32_S1024x32_S1024x32_S1024x32_S1024x32_S1024x256_d1)

/-- Two matrices of 32 columns side by side. -/
def join2 (a b : FVec F S1024x32 .f32) : FVec F S1024x64 .f32 :=
  concatenate S1024x64 1 [⟨S1024x32, a⟩, ⟨S1024x32, b⟩] concatenates_S1024x32_S1024x32_S1024x64_d1

/-- A 1024 × 32 matrix as one slot of a scratch array, and back. -/
def asSlot (a : FVec F S1024x32 .f32) : FVec F S1x1024x32 .f32 := shapeCast S1x1024x32 a shapeCasts_S1024x32_S1x1024x32
def ofSlot (a : Vec F S1x1024x32 .f32) : FVec F S1024x32 .f32 := shapeCast S1024x32 a shapeCasts_S1x1024x32_S1024x32

/-! ## The printed pieces -/

section Pieces

variable (i : grid0.Coords) (arg1 : Memref sig .tc .vmem S1024x1024 .f32) (harg1 : arg1.IsWhole)
  (arg2 : Memref sig .tc .vmem S1024x32 .f32) (harg2 : arg2.IsWhole) (arg3 : Memref sig .tc .vmem S8x1024x32 .f32) (harg3 : arg3.IsWhole)
  (arg4 : Memref sig .tc .vmem S2x1024x32 .f32) (harg4 : arg4.IsWhole) (arg5 arg6 : DmaSems sig S_)

/-- Rounds 7 to 13 over a chunk. -/
theorem piece13 (x : FVec F S1024x1024 .f32) :
    k0_part13 i arg1 harg1 arg2 harg2 arg3 harg3 arg4 harg4 arg5 arg6 (struck fits1024 x 6) (hits fits1024 (struck fits1024 x 6)) (low 1024)
      = pure ⟨col fits1024 x 7, col fits1024 x 8, col fits1024 x 9, col fits1024 x 10, col fits1024 x 11, col fits1024 x 12, col fits1024 x 13,
          struck fits1024 x 14, col fits1024 x 14⟩ := rfl

/-- Rounds 15 to 21. -/
theorem piece14 (x : FVec F S1024x1024 .f32) :
    k0_part14 i arg1 harg1 arg2 harg2 arg3 harg3 arg4 harg4 arg5 arg6 (struck fits1024 x 14) (col fits1024 x 14)
      = pure ⟨col fits1024 x 15, col fits1024 x 16, col fits1024 x 17, col fits1024 x 18, col fits1024 x 19, col fits1024 x 20,
          struck fits1024 x 21, col fits1024 x 21, hits fits1024 (struck fits1024 x 21), low 1024⟩ := rfl

/-- Rounds 22 to 29. -/
theorem piece15 (x : FVec F S1024x1024 .f32) :
    k0_part15 i arg1 harg1 arg2 harg2 arg3 harg3 arg4 harg4 arg5 arg6 (struck fits1024 x 21) (hits fits1024 (struck fits1024 x 21)) (low 1024)
      = pure ⟨col fits1024 x 22, col fits1024 x 23, col fits1024 x 24, col fits1024 x 25, col fits1024 x 26, col fits1024 x 27, col fits1024 x 28,
          struck fits1024 x 29, col fits1024 x 29⟩ := rfl

/-- The rest of a chunk's rounds, and the 32 columns laid side by side. -/
theorem chunk_end (x : FVec F S1024x1024 .f32) :
    k0_pay3 (col fits1024 x 0) (col fits1024 x 1) (col fits1024 x 2) (col fits1024 x 3) (col fits1024 x 4) (col fits1024 x 5) (col fits1024 x 6)
        (col fits1024 x 7) (col fits1024 x 8) (col fits1024 x 9) (col fits1024 x 10) (col fits1024 x 11) (col fits1024 x 12) (col fits1024 x 13)
        (col fits1024 x 14) (col fits1024 x 15) (col fits1024 x 16) (col fits1024 x 17) (col fits1024 x 18) (col fits1024 x 19) (col fits1024 x 20)
        (col fits1024 x 21) (col fits1024 x 22) (col fits1024 x 23) (col fits1024 x 24) (col fits1024 x 25) (col fits1024 x 26) (col fits1024 x 27)
        (col fits1024 x 28) (col fits1024 x 29) (k0_pay2 (struck fits1024 x 29) (k0_pay1 (struck fits1024 x 29) (col fits1024 x 29)))
      = best fits1024 x := rfl

/-- The first seven rounds over eight chunks' candidates. -/
theorem piece2 (x : FVec F S1024x256 .f32) :
    k0_part2 i arg1 harg1 arg2 harg2 arg3 harg3 arg4 harg4 arg5 arg6 x
      = pure ⟨col fits256 x 0, col fits256 x 1, col fits256 x 2, col fits256 x 3, col fits256 x 4, col fits256 x 5, col fits256 x 6,
          struck fits256 x 7, col fits256 x 7, hits fits256 (struck fits256 x 7)⟩ := rfl

theorem piece3 (x : FVec F S1024x256 .f32) :
    k0_part3 i arg1 harg1 arg2 harg2 arg3 harg3 arg4 harg4 arg5 arg6 (struck fits256 x 7) (hits fits256 (struck fits256 x 7))
      = pure ⟨col fits256 x 8, col fits256 x 9, col fits256 x 10, col fits256 x 11, col fits256 x 12, col fits256 x 13, col fits256 x 14,
          struck fits256 x 15⟩ := rfl

theorem piece4 (x : FVec F S1024x256 .f32) :
    k0_part4 i arg1 harg1 arg2 harg2 arg3 harg3 arg4 harg4 arg5 arg6 (struck fits256 x 15)
      = pure ⟨col fits256 x 15, col fits256 x 16, col fits256 x 17, col fits256 x 18, col fits256 x 19, col fits256 x 20, col fits256 x 21,
          struck fits256 x 22, col fits256 x 22, hits fits256 (struck fits256 x 22)⟩ := rfl

theorem piece5 (x : FVec F S1024x256 .f32) :
    k0_part5 i arg1 harg1 arg2 harg2 arg3 harg3 arg4 harg4 arg5 arg6 (struck fits256 x 22) (hits fits256 (struck fits256 x 22))
      = pure ⟨col fits256 x 23, col fits256 x 24, col fits256 x 25, col fits256 x 26, col fits256 x 27, col fits256 x 28, col fits256 x 29,
          struck fits256 x 30⟩ := rfl

/-- The device's own 32 candidates. -/
theorem local_end (x : FVec F S1024x256 .f32) :
    k0_pay68 (col fits256 x 0) (col fits256 x 1) (col fits256 x 2) (col fits256 x 3) (col fits256 x 4) (col fits256 x 5) (col fits256 x 6)
        (col fits256 x 7) (col fits256 x 8) (col fits256 x 9) (col fits256 x 10) (col fits256 x 11) (col fits256 x 12) (col fits256 x 13)
        (col fits256 x 14) (col fits256 x 15) (col fits256 x 16) (col fits256 x 17) (col fits256 x 18) (col fits256 x 19) (col fits256 x 20)
        (col fits256 x 21) (col fits256 x 22) (col fits256 x 23) (col fits256 x 24) (col fits256 x 25) (col fits256 x 26) (col fits256 x 27)
        (col fits256 x 28) (col fits256 x 29) (struck fits256 x 30)
      = best fits256 x := rfl

theorem slot_end (x : FVec F S1024x256 .f32) :
    k0_pay69 (col fits256 x 0) (col fits256 x 1) (col fits256 x 2) (col fits256 x 3) (col fits256 x 4) (col fits256 x 5) (col fits256 x 6)
        (col fits256 x 7) (col fits256 x 8) (col fits256 x 9) (col fits256 x 10) (col fits256 x 11) (col fits256 x 12) (col fits256 x 13)
        (col fits256 x 14) (col fits256 x 15) (col fits256 x 16) (col fits256 x 17) (col fits256 x 18) (col fits256 x 19) (col fits256 x 20)
        (col fits256 x 21) (col fits256 x 22) (col fits256 x 23) (col fits256 x 24) (col fits256 x 25) (col fits256 x 26) (col fits256 x 27)
        (col fits256 x 28) (col fits256 x 29) (struck fits256 x 30)
      = asSlot (best fits256 x) := rfl

theorem piece8 (x : FVec F S1024x64 .f32) :
    k0_part8 i arg1 harg1 arg2 harg2 arg3 harg3 arg4 harg4 arg5 arg6 (struck fits64 x 3) (rowMax fits64 (struck fits64 x 3))
      = pure ⟨col fits64 x 3, col fits64 x 4, col fits64 x 5, col fits64 x 6, col fits64 x 7, col fits64 x 8, col fits64 x 9,
          struck fits64 x 10, col fits64 x 10, hits fits64 (struck fits64 x 10), Scalar.ofBits .f32 0xFF800000#32⟩ := rfl

theorem piece9 (x : FVec F S1024x64 .f32) :
    k0_part9 i arg1 harg1 arg2 harg2 arg3 harg3 arg4 harg4 arg5 arg6 (struck fits64 x 10) (hits fits64 (struck fits64 x 10)) (Scalar.ofBits .f32 0xFF800000#32)
      = pure ⟨col fits64 x 11, col fits64 x 12, col fits64 x 13, col fits64 x 14, col fits64 x 15, col fits64 x 16, col fits64 x 17,
          struck fits64 x 18, rowMax fits64 (struck fits64 x 18)⟩ := rfl

theorem piece10 (x : FVec F S1024x64 .f32) :
    k0_part10 i arg1 harg1 arg2 harg2 arg3 harg3 arg4 harg4 arg5 arg6 (struck fits64 x 18) (rowMax fits64 (struck fits64 x 18))
      = pure ⟨col fits64 x 18, col fits64 x 19, col fits64 x 20, col fits64 x 21, col fits64 x 22, col fits64 x 23, col fits64 x 24,
          struck fits64 x 25, col fits64 x 25, hits fits64 (struck fits64 x 25), Scalar.ofBits .f32 0xFF800000#32⟩ := rfl

/-- The result: the 32 candidates of the two devices' candidates. -/
theorem out_end (x : FVec F S1024x64 .f32) :
    k0_pay127 (col fits64 x 0) (col fits64 x 1) (col fits64 x 2) (col fits64 x 3) (col fits64 x 4) (col fits64 x 5) (col fits64 x 6)
        (col fits64 x 7) (col fits64 x 8) (col fits64 x 9) (col fits64 x 10) (col fits64 x 11) (col fits64 x 12) (col fits64 x 13)
        (col fits64 x 14) (col fits64 x 15) (col fits64 x 16) (col fits64 x 17) (col fits64 x 18) (col fits64 x 19) (col fits64 x 20)
        (col fits64 x 21) (col fits64 x 22) (col fits64 x 23) (col fits64 x 24) (col fits64 x 25)
        (k0_pay126 (struck fits64 x 25) (hits fits64 (struck fits64 x 25)) (Scalar.ofBits .f32 0xFF800000#32))
      = best fits64 x := rfl

end Pieces

end Cert.TopK

end
-- ==== Proof.Text.lean ====
/-
# The kernel's body, put in one piece

The printed body is cut into parts that hand each other dozens of columns. Here it is once as a reader would write it:
load the chunk, store its 32 candidates in the point's slot, and at the last point merge, exchange and merge again.
-/
module

public import Idealize.ShloMosaic.Lib.Pipeline.Value
public import proofs.«01_k».proof.Proof.Strike

@[expose] public section

noncomputable section

namespace Cert.TopK

open Cert.KernelIdeal Cert.KernelIdeal.Gen
open Idealize.ShloMosaic Idealize.SL.Sem

variable {F : FTy → Type} [FloatOps F]

variable (i : grid0.Coords) (arg1 : Memref sig .tc .vmem S1024x1024 .f32) (harg1 : arg1.IsWhole)
  (arg2 : Memref sig .tc .vmem S1024x32 .f32) (harg2 : arg2.IsWhole) (arg3 : Memref sig .tc .vmem S8x1024x32 .f32) (harg3 : arg3.IsWhole)
  (arg4 : Memref sig .tc .vmem S2x1024x32 .f32) (harg4 : arg4.IsWhole) (arg5 arg6 : DmaSems sig S_)

/-- The rectangles of the eight candidate slots and of the two halves of the exchange buffer. -/
abbrev candRect (j : Fin 8) : Rect S8x1024x32 := Rect.unit (s := S8x1024x32) ![j.val, 0, 0] S1x1024x32.size (by revert j; decide)
abbrev halfRect (b : Fin 2) : Rect S2x1024x32 := Rect.unit (s := S2x1024x32) ![b.val, 0, 0] S1x1024x32.size (by revert b; decide)

/-- One half of the exchange buffer, as a transfer names it. -/
abbrev half (arg4 : Memref sig .tc .vmem S2x1024x32 .f32) (b : Fin 2) : Memref sig .tc .vmem S1024x32 .f32 :=
  (arg4.slice (halfRect b) (fun _ => rfl)).squeeze S1024x32 squeezes_S1x1024x32_S1024x32

theorem has_barrier : (sig.barrierSem 0).isSome = true := rfl

/-- The runtime's barrier semaphore. -/
abbrev gate : Sem sig := (SemArray.scalar (sig.barrier 0 has_barrier) : Sems sig S_).sem

/-- Eight things by number. -/
def eight {α : Type} (a0 a1 a2 a3 a4 a5 a6 a7 : α) : Fin 8 → α
  | 0 => a0 | 1 => a1 | 2 => a2 | 3 => a3 | 4 => a4 | 5 => a5 | 6 => a6 | 7 => a7

/-- Reading candidate slot `j`. -/
def readCand (j : Fin 8) : Prog (TpuEff nD τ sig (Elt F) Λ₀ .tc) (Vec F S1x1024x32 .f32) :=
  Prog.lift (.load arg3 (candRect j).toLoadRect (View.loadsAt_vmem h_S1x1024x32))

/-- What the last point does after storing its candidates. -/
def finish (k0_h1 : k0_cond1 i = 1#1) : Prog (TpuEff nD τ sig (Elt F) Λ₀ .tc) PUnit := do
  let d ← Prog.lift .deviceId
  let a0 ← readCand arg3 0
  let a1 ← readCand arg3 1
  let a2 ← readCand arg3 2
  let a3 ← readCand arg3 3
  let a4 ← readCand arg3 4
  let a5 ← readCand arg3 5
  let a6 ← readCand arg3 6
  let a7 ← readCand arg3 7
  let mine : FVec F S1024x32 .f32 :=
    best fits256 (join8 fun j => ofSlot (eight a0 a1 a2 a3 a4 a5 a6 a7 j))
  let _ : Vec F S1x1024x32 .f32 ← Prog.lift (.load arg4 (halfRect 0).toLoadRect (View.loadsAt_vmem h_S1x1024x32))
  Prog.lift (.store arg4 (halfRect 0) (asSlot mine) Finset.univ (View.stores_vmem_bits_univ h_S1x1024x32 rfl) (.inl rfl))
  semSignalWord (⟨k0_dev1 d, k0_dev1_lt i d k0_h1⟩ : Dev nD) gate 1#32
  semWaitWord gate 1#32
  Prog.lift (.enqueueDma (half arg4 0) (.remote (Dev.tc (⟨k0_dev2 d, k0_dev2_lt i d k0_h1⟩ : Dev nD)) (half arg4 1) (.dma arg5.sem)) (.dma arg6.sem)
    ((View.wordExact_bits rfl).reshape _ _) ((View.wordExact_bits rfl).reshape _ _) ⟨⟨rfl, Or.inl rfl⟩, trivial⟩)
  Prog.lift (.waitDma2 arg5.sem (half arg4 1) (half arg4 0) ((View.wordExact_bits rfl).reshape _ _) ((View.wordExact_bits rfl).reshape _ _))
  Prog.lift (.waitDma2 arg6.sem (half arg4 0) (half arg4 1) ((View.wordExact_bits rfl).reshape _ _) ((View.wordExact_bits rfl).reshape _ _))
  let theirs : Vec F S1x1024x32 .f32 ← Prog.lift (.load arg4 (halfRect 1).toLoadRect (View.loadsAt_vmem h_S1x1024x32))
  let _ : Vec F S1024x32 .f32 ← Prog.lift (.load arg2 (Rect.unit (s := S1024x32) ![0, 0] S1024x32.size inb_S1024x32_S1024x32_0_0).toLoadRect (View.loadsAt_vmem h_S1024x32))
  Prog.lift (.store arg2 (Rect.unit (s := S1024x32) ![0, 0] S1024x32.size inb_S1024x32_S1024x32_0_0) (best fits64 (join2 mine (ofSlot theirs))) Finset.univ
    (View.stores_vmem_bits_univ h_S1024x32 rfl) (.inl rfl))
  pure ⟨⟩

/-- The body at one grid point. -/
def body : Prog (TpuEff nD τ sig (Elt F) Λ₀ .tc) PUnit := do
  let x : Vec F S1024x1024 .f32 ← Prog.lift (.load arg1 (Rect.unit (s := S1024x1024) ![0, 0] S1024x1024.size inb_S1024x1024_S1024x1024_0_0).toLoadRect (View.loadsAt_vmem h_S1024x1024))
  let _ : Vec F S1x1024x32 .f32 ← Prog.lift (.load arg3 (Rect.unit (s := S8x1024x32) (k0_off1 i) S1x1024x32.size (k0_off1_inb i)).toLoadRect (View.loadsAt_vmem h_S1x1024x32))
  Prog.lift (.store arg3 (Rect.unit (s := S8x1024x32) (k0_off1 i) S1x1024x32.size (k0_off1_inb i)) (asSlot (best fits1024 x)) Finset.univ
    (View.stores_vmem_bits_univ h_S1x1024x32 rfl) (.inl rfl))
  if k0_h1 : k0_cond1 i = 1#1 then finish i arg2 arg3 arg4 arg5 arg6 k0_h1 else pure ⟨⟩

/-- The chunk is cast to its own shape, which changes nothing. -/
theorem cast_chunk (x : FVec F S1024x1024 .f32) : k0_pay128 x = x := shapeCast_self x _

set_option maxRecDepth 65536 in
/-- Loading the chunk, and its first seven rounds. -/
theorem piece12 :
    k0_part12 (F := F) i arg1 harg1 arg2 harg2 arg3 harg3 arg4 harg4 arg5 arg6 = (do
      let x : Vec F S1024x1024 .f32 ← Prog.lift (.load arg1 (Rect.unit (s := S1024x1024) ![0, 0] S1024x1024.size inb_S1024x1024_S1024x1024_0_0).toLoadRect (View.loadsAt_vmem h_S1024x1024))
      pure ⟨BitVec.ofNat 32 (i 0).val, col fits1024 x 0, col fits1024 x 1, col fits1024 x 2, col fits1024 x 3, col fits1024 x 4, col fits1024 x 5,
        struck fits1024 x 6, col fits1024 x 6, hits fits1024 (struck fits1024 x 6), low 1024⟩) := by
  rw [k0_part12_eq_skeleton]; unfold k0_part12_skel
  simp only [Prog.lift, Prog.bind_op, Prog.bind_ret, Prog.pure_eq_ret]
  refine congrArg _ (funext fun x => ?_)
  refine Eq.trans (b := Prog.ret ⟨BitVec.ofNat 32 (i 0).val, col fits1024 (k0_pay128 x) 0, col fits1024 (k0_pay128 x) 1,
    col fits1024 (k0_pay128 x) 2, col fits1024 (k0_pay128 x) 3, col fits1024 (k0_pay128 x) 4, col fits1024 (k0_pay128 x) 5,
    struck fits1024 (k0_pay128 x) 6, col fits1024 (k0_pay128 x) 6, hits fits1024 (struck fits1024 (k0_pay128 x) 6), low 1024⟩) rfl ?_
  rw [cast_chunk]

/-- Reading the eight slots and laying their columns side by side. -/
theorem piece1 :
    k0_part1 (F := F) i arg1 harg1 arg2 harg2 arg3 harg3 arg4 harg4 arg5 arg6 = (do
      let d ← Prog.lift .deviceId
      let a0 ← readCand arg3 0
      let a1 ← readCand arg3 1
      let a2 ← readCand arg3 2
      let a3 ← readCand arg3 3
      let a4 ← readCand arg3 4
      let a5 ← readCand arg3 5
      let a6 ← readCand arg3 6
      let a7 ← readCand arg3 7
      pure ⟨d, Scalar.remsi (Scalar.divsi (Dev.word d) 4#32) 2#32, Scalar.remsi (Scalar.divsi (Dev.word d) 2#32) 2#32,
        Scalar.subi 1#32 (Scalar.remsi (Scalar.divsi (Dev.word d) 1#32) 2#32),
        join8 fun j => ofSlot (eight a0 a1 a2 a3 a4 a5 a6 a7 j)⟩) := rfl

/-- The exchange: store the device's candidates in the first half, signal, wait, start the transfer. -/
theorem piece6 (k0_h1 : k0_cond1 i = 1#1) (d : Dev nD) (w0 w1 w2 : BitVec 32) (y : FVec F S1024x256 .f32) :
    k0_part6 i arg1 harg1 arg2 harg2 arg3 harg3 arg4 harg4 arg5 arg6 k0_h1 d w0 w1 w2
        (col fits256 y 0) (col fits256 y 1) (col fits256 y 2) (col fits256 y 3) (col fits256 y 4) (col fits256 y 5) (col fits256 y 6)
        (col fits256 y 7) (col fits256 y 8) (col fits256 y 9) (col fits256 y 10) (col fits256 y 11) (col fits256 y 12) (col fits256 y 13)
        (col fits256 y 14) (col fits256 y 15) (col fits256 y 16) (col fits256 y 17) (col fits256 y 18) (col fits256 y 19) (col fits256 y 20)
        (col fits256 y 21) (col fits256 y 22) (col fits256 y 23) (col fits256 y 24) (col fits256 y 25) (col fits256 y 26) (col fits256 y 27)
        (col fits256 y 28) (col fits256 y 29) (struck fits256 y 30) = (do
      let _ : Vec F S1x1024x32 .f32 ← Prog.lift (.load arg4 (halfRect 0).toLoadRect (View.loadsAt_vmem h_S1x1024x32))
      Prog.lift (.store arg4 (halfRect 0) (asSlot (best fits256 y)) Finset.univ (View.stores_vmem_bits_univ h_S1x1024x32 rfl) (.inl rfl))
      semSignalWord (⟨k0_dev1 d, k0_dev1_lt i d k0_h1⟩ : Dev nD) gate 1#32
      semWaitWord gate 1#32
      Prog.lift (.enqueueDma (half arg4 0) (.remote (Dev.tc (⟨k0_dev2 d, k0_dev2_lt i d k0_h1⟩ : Dev nD)) (half arg4 1) (.dma arg5.sem)) (.dma arg6.sem)
        ((View.wordExact_bits rfl).reshape _ _) ((View.wordExact_bits rfl).reshape _ _) ⟨⟨rfl, Or.inl rfl⟩, trivial⟩)
      pure (best fits256 y)) := by
  rw [k0_part6_eq_skeleton]; unfold k0_part6_skel
  rw [local_end, slot_end]
  rfl

/-- The two waits, the other device's candidates read, and the first rounds over both devices' candidates. -/
theorem piece7 (w0 w1 w2 : BitVec 32) (mine : FVec F S1024x32 .f32) :
    k0_part7 i arg1 harg1 arg2 harg2 arg3 harg3 arg4 harg4 arg5 arg6 w0 w1 w2 mine = (do
      Prog.lift (.waitDma2 arg5.sem (half arg4 1) (half arg4 0) ((View.wordExact_bits rfl).reshape _ _) ((View.wordExact_bits rfl).reshape _ _))
      Prog.lift (.waitDma2 arg6.sem (half arg4 0) (half arg4 1) ((View.wordExact_bits rfl).reshape _ _) ((View.wordExact_bits rfl).reshape _ _))
      let theirs : Vec F S1x1024x32 .f32 ← Prog.lift (.load arg4 (halfRect 1).toLoadRect (View.loadsAt_vmem h_S1x1024x32))
      pure ⟨col fits64 (join2 mine (ofSlot theirs)) 0, col fits64 (join2 mine (ofSlot theirs)) 1, col fits64 (join2 mine (ofSlot theirs)) 2,
        struck fits64 (join2 mine (ofSlot theirs)) 3, rowMax fits64 (struck fits64 (join2 mine (ofSlot theirs)) 3)⟩) := rfl

set_option maxRecDepth 65536 in
/-- The printed last part is `finish`. -/
theorem finish_eq (k0_h1 : k0_cond1 i = 1#1) :
    k0_part11 (F := F) i arg1 harg1 arg2 harg2 arg3 harg3 arg4 harg4 arg5 arg6 k0_h1 = finish i arg2 arg3 arg4 arg5 arg6 k0_h1 := by
  rw [k0_part11_eq_skeleton]
  unfold k0_part11_skel finish
  simp only [piece1, piece2, piece3, piece4, piece5, piece6, piece7, piece8, piece9, piece10, out_end, readCand, semSignalWord, semWaitWord,
    Prog.lift, Prog.bind_op, Prog.bind_ret, Prog.pure_eq_ret]

set_option maxRecDepth 65536 in
/-- The printed body is `body`. -/
theorem body_eq : cc0_body (F := F) i arg1 harg1 arg2 harg2 arg3 harg3 arg4 harg4 arg5 arg6 = body i arg1 arg2 arg3 arg4 arg5 arg6 := by
  rw [cc0_body_eq_skeleton]
  unfold cc0_body_skel body
  simp only [piece12, piece13, piece14, piece15, chunk_end, finish_eq,
    Prog.lift, Prog.bind_op, Prog.bind_ret, Prog.pure_eq_ret]
  refine congrArg _ (funext fun x => congrArg _ (funext fun _ => congrArg _ (funext fun _ => ?_)))
  split
  · exact bind_pure_unit
  · rfl

end Cert.TopK

end
-- ==== Proof.Scratch.lean ====
/-
# The kernel's buffers, as its accesses see them

Rules for the loads and stores the body makes: of a whole staging buffer, of one slot of the candidate scratch (eight
slots, one a chunk), of one half of the exchange buffer (half 0 is sent, half 1 is landed in). A half is owned by itself,
because the transfer moves one half of each device's buffer and leaves the other.
-/
module

public import proofs.«01_k».proof.Proof.Text
public import Idealize.ShloMosaic.Lib.Pipeline.Kit
public import Idealize.ShloMosaic.Lib.Memref
public import Idealize.ShloMosaic.Lib.ReshapeSlab
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one part for the pipeline's cells, one for the exchange's. -/
abbrev UU : Type := UR sig nD τ × UR sig nD τ

local notation "𝕄" => MT nD τ sig Unit (Elt F) ℕ UU ℕ

/-! ## Shape casts between a matrix and a slot -/

theorem ofSlot_asSlot (a : FVec F S1024x32 .f32) : ofSlot (asSlot a) = a := by
  funext i
  show a _ = a i
  exact congrArg a ((Shape.reshapeEquiv _).symm_apply_apply i)

theorem asSlot_ofSlot (v : Vec F S1x1024x32 .f32) : asSlot (ofSlot v) = v := by
  funext i
  show v _ = v i
  exact congrArg v ((Shape.reshapeEquiv _).symm_apply_apply i)

/-! ## A whole matrix loaded or stored -/

section Whole

variable {s : Shape} {e : EltTy} (M : Memref sig .tc .vmem s e) {off : Fin s.rank → ℕ} (hoff : off = fun _ => 0)
  (inb : ∀ a, off a + s.size a ≤ s.size a)
include hoff

/-- The rectangle that starts at the origin and has the matrix's size places every index at itself. -/
theorem emb_origin (x : s.Idx) : (Rect.unit (s := s) off s.size inb).emb x = x := by
  subst hoff
  funext a; apply Fin.ext
  simp [Rect.emb_apply]

theorem load_all (c : Dev nD) {E : Set ℕ} {α : Type} {Q : α → sProp 𝕄} {X : s.Idx → Elt F e}
    {hl : M.view.LoadsAt (Rect.unit (s := s) off s.size inb).toLoadRect}
    {k : (s.Idx → Elt F e) → Prog (TpuEff nD τ sig (Elt F) Λ₀ .tc) α} :
    owns (c : Thread nD τ) M fullShare X
      ⊢ iprop((owns (c : Thread nD τ) M fullShare X -∗ wp frame (wpE (defs₀ (F := F)) Variants.none (c : Thread nD τ) none) E (k X) Q)
        -∗ wp frame (wpE (defs₀ (F := F)) Variants.none (c : Thread nD τ) none) E
            (.op (.load M (Rect.unit (s := s) off s.size inb).toLoadRect hl) k) Q) := by
  unfold owns
  iintro ⟨%f, %hf, H⟩ Hk
  iapply (wp_load Variants.none (c : Thread nD τ) none E (m := M) (by exact View.setOn_subset_set _ _)) $$ H
  iintro H
  have hX : M.view.readAt (Elt F) (Rect.unit (s := s) off s.size inb).toLoadRect f = X := by
    rw [← hf]; funext x
    exact congrArg (M.view.read (Elt F) f) (emb_origin hoff inb x)
  rw [hX]
  iapply Hk
  iexists f
  isplitr; · ipureintro; exact hf
  iexact H

theorem store_all (c : Dev nD) {E : Set ℕ} {α : Type} {Q : α → sProp 𝕄} {X w : s.Idx → Elt F e}
    {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} :
    owns (c : Thread nD τ) M fullShare X
      ⊢ iprop((owns (c : Thread nD τ) M fullShare w -∗ wp frame (wpE (defs₀ (F := F)) Variants.none (c : Thread nD τ) none) E (k ⟨⟩) Q)
        -∗ wp frame (wpE (defs₀ (F := F)) Variants.none (c : Thread nD τ) none) E
            (.op (.store M (Rect.unit (s := s) off s.size inb) w Finset.univ hx hm) k) Q) := by
  unfold owns
  iintro ⟨%f, %hf, H⟩ Hk
  iapply (wp_store Variants.none (c : Thread nD τ) none E (m := M) (r := Rect.unit (s := s) off s.size inb)
    (w := w) (Mk := Finset.univ) (S := M.view.set) (f := f) (by
    rw [View.setOn_univ, View.set_slice]; exact View.setOn_subset_set _ _)) $$ H
  iintro H
  iapply Hk
  iexists _
  isplitr
  swap
  · iexact H
  · ipureintro
    funext x
    have h := View.read_slice_write_emb (Val := Elt F) (v := M.view) (Rect.unit (s := s) off s.size inb) f w (Finset.mem_univ x)
    rw [emb_origin hoff inb x] at h
    exact h

end Whole

/-! ## One slot of the candidate scratch -/

abbrev candM : Memref sig .tc .vmem S8x1024x32 .f32 := Memref.whole cc0_scratch0
abbrev commM : Memref sig .tc .vmem S2x1024x32 .f32 := Memref.whole cc0_scratch1

/-- What slot `j` holds in candidate contents `f`. -/
def slotOf (f : (cc0_scratch0 : Ref sig .tc).ty.Contents (Elt F)) (j : Fin 8) : FVec F S1024x32 .f32 :=
  ofSlot (candM.view.readAt (Elt F) (candRect j).toLoadRect f)

/-- A load of slot `j` finds what the slot holds. -/
theorem load_slot (c : Dev nD) {E : Set ℕ} {α : Type} {Q : α → sProp 𝕄} (j : Fin 8) {f : Buf (Elt F) ((c : Thread nD τ).loc cc0_scratch0)}
    {hl : candM.view.LoadsAt (candRect j).toLoadRect}
    {k : (S1x1024x32.Idx → Elt F .f32) → Prog (TpuEff nD τ sig (Elt F) Λ₀ .tc) α} :
    ((c : Thread nD τ).loc cc0_scratch0 ↦{fullShare} f : sProp 𝕄)
      ⊢ iprop((((c : Thread nD τ).loc cc0_scratch0 ↦{fullShare} f)
            -∗ wp frame (wpE (defs₀ (F := F)) Variants.none (c : Thread nD τ) none) E (k (asSlot (slotOf f j))) Q)
        -∗ wp frame (wpE (defs₀ (F := F)) Variants.none (c : Thread nD τ) none) E
            (.op (.load candM (candRect j).toLoadRect hl) k) Q) := by
  unfold slotOf
  rw [asSlot_ofSlot]
  exact wp_load Variants.none (c : Thread nD τ) none E (m := candM) (Finset.subset_univ _)

/-- Storing `w` in slot `j` leaves slot `j` holding `w` and the others as they were. -/
theorem slotOf_store (f : (cc0_scratch0 : Ref sig .tc).ty.Contents (Elt F)) (j i : Fin 8) (w : FVec F S1024x32 .f32) :
    slotOf ((candM.access (candRect j) : View sig .tc _ _ _).write (Elt F) f (asSlot w) Finset.univ) i = if i = j then w else slotOf f i := by
  unfold slotOf
  split_ifs with h
  · subst h
    rw [View.readAt_rect, show (candM.view.slice (candRect i)).read (Elt F) _ = _ from View.read_write_univ f (asSlot w), ofSlot_asSlot]
  · rw [View.readAt_rect, View.readAt_rect]
    refine congrArg ofSlot (View.read_slice_write_slice_of_disjoint (v := candM.view) (candRect i) (candRect j) f (asSlot w) Finset.univ ?_)
    refine View.disjoint_slice_of_sep candM.view (candRect i) (candRect j) 0 rfl rfl ?_
    show i.val + 1 ≤ j.val ∨ j.val + 1 ≤ i.val
    have : i.val ≠ j.val := fun h' => h (Fin.ext h')
    omega

/-! ## One half of the exchange buffer -/

/-- Device `c` owns half `b` of its exchange buffer, which holds `a`. -/
def holds (c : Dev nD) (b : Fin 2) (a : FVec F S1024x32 .f32) : sProp 𝕄 := owns (c : Thread nD τ) (half commM b) fullShare a

instance holds_storable (c : Dev nD) (b : Fin 2) (a : FVec F S1024x32 .f32) : BI.Storable (upEmb : UEmb _ 𝕄) (holds c b a) := by
  unfold holds; infer_instance

/-- The elements of a half are those of its rectangle. -/
theorem half_set (b : Fin 2) : (half commM b).view.set = (halfRect b).set := by
  show ((commM.view.slice (halfRect b)).reshape _ _).set = _
  rw [View.set_reshape, View.set_slice]
  show (halfRect b).set.map (Function.Embedding.refl _) = _
  exact Finset.map_refl

theorem halves_disjoint : Disjoint (half commM 0).view.set (half commM 1).view.set := by
  rw [half_set, half_set]
  exact Rect.unit_disjoint 0 (Or.inl (by decide))

theorem halves_cover : (half commM 0).view.set ∪ (half commM 1).view.set = Finset.univ := by
  rw [half_set, half_set]
  ext i
  simp only [Finset.mem_union, Finset.mem_univ, iff_true, Rect.mem_set_unit]
  have h0 : (i 0 : ℕ) < 2 := (i 0).isLt
  have h1 : (i 1 : ℕ) < 1024 := (i 1).isLt
  have h2 : (i 2 : ℕ) < 32 := (i 2).isLt
  rcases (show (i 0 : ℕ) = 0 ∨ (i 0 : ℕ) = 1 by omega) with h | h
  · left; intro a; fin_cases a
    · exact ⟨Nat.zero_le _, by show (i 0 : ℕ) < 0 + 1; omega⟩
    · exact ⟨Nat.zero_le _, by show (i 1 : ℕ) < 0 + 1024; omega⟩
    · exact ⟨Nat.zero_le _, by show (i 2 : ℕ) < 0 + 32; omega⟩
  · right; intro a; fin_cases a
    · exact ⟨by show 1 ≤ (i 0 : ℕ); omega, by show (i 0 : ℕ) < 1 + 1; omega⟩
    · exact ⟨Nat.zero_le _, by show (i 1 : ℕ) < 0 + 1024; omega⟩
    · exact ⟨Nat.zero_le _, by show (i 2 : ℕ) < 0 + 32; omega⟩

/-- The exchange buffer is its two halves. -/
theorem halves_split (c : Dev nD) (f : Buf (Elt F) ((c : Thread nD τ).loc cc0_scratch1)) :
    ((c : Thread nD τ).loc cc0_scratch1 ↦{fullShare} f : sProp 𝕄) ⊢ iprop((∃ a, holds c 0 a) ∗ ∃ a, holds c 1 a) := by
  have hu : ((c : Thread nD τ).loc cc0_scratch1 ↦{fullShare} f : sProp 𝕄)
      = ((c : Thread nD τ).loc cc0_scratch1 ↦[(half commM 0).view.set ∪ (half commM 1).view.set]{fullShare} f) := by rw [halves_cover]
  rw [hu]
  iintro H
  ihave H := (pointsTo_union (ℓ := (c : Thread nD τ).loc cc0_scratch1) halves_disjoint).1 $$ H
  icases H with ⟨H0, H1⟩
  isplitl [H0]
  · iexists _; unfold holds; iapply (owns_intro (c : Thread nD τ) (half commM 0) fullShare f); iexact H0
  · iexists _; unfold holds; iapply (owns_intro (c : Thread nD τ) (half commM 1) fullShare f); iexact H1

theorem halves_join (c : Dev nD) (a b : FVec F S1024x32 .f32) :
    iprop(holds c 0 a ∗ holds c 1 b) ⊢ (iprop(∃ f, (c : Thread nD τ).loc cc0_scratch1 ↦{fullShare} f) : sProp 𝕄) := by
  unfold holds owns
  iintro ⟨⟨%f, -, H0⟩, ⟨%g, -, H1⟩⟩
  ihave H := (pointsTo_join (ℓ := (c : Thread nD τ).loc cc0_scratch1) halves_disjoint) $$ [H0 H1]
  · isplitl [H0] <;> iassumption
  iexists _
  rw [halves_cover]
  iexact H

/-- A load of a half finds what it holds. -/
theorem load_half (c : Dev nD) {E : Set ℕ} {α : Type} {Q : α → sProp 𝕄} (b : Fin 2) {a : FVec F S1024x32 .f32}
    {hl : commM.view.LoadsAt (halfRect b).toLoadRect}
    {k : (S1x1024x32.Idx → Elt F .f32) → Prog (TpuEff nD τ sig (Elt F) Λ₀ .tc) α} :
    holds c b a
      ⊢ iprop((holds c b a -∗ wp frame (wpE (defs₀ (F := F)) Variants.none (c : Thread nD τ) none) E (k (asSlot a)) Q)
        -∗ wp frame (wpE (defs₀ (F := F)) Variants.none (c : Thread nD τ) none) E
            (.op (.load commM (halfRect b).toLoadRect hl) k) Q) := by
  unfold holds owns
  iintro ⟨%f, %hf, H⟩ Hk
  iapply (wp_load Variants.none (c : Thread nD τ) none E (m := commM) (S := (half commM b).view.set) (by
    rw [half_set]; exact (Finset.map_refl (s := (halfRect b).set)).subset)) $$ H
  iintro H
  have ha : commM.view.readAt (Elt F) (halfRect b).toLoadRect f = asSlot a := by
    rw [← hf]; exact (asSlot_ofSlot _).symm
  rw [ha]
  iapply Hk
  iexists f
  isplitr; · ipureintro; exact hf
  iexact H

/-- A store to a half leaves it holding what was stored. -/
theorem store_half (c : Dev nD) {E : Set ℕ} {α : Type} {Q : α → sProp 𝕄} (b : Fin 2) {a w : FVec F S1024x32 .f32}
    {hx : (commM.access (halfRect b)).Stores Finset.univ}
    {hm : (Finset.univ : Finset (halfRect b).shape.Idx) = Finset.univ ∨ ∀ a, (halfRect b).stride a = 1}
    {k : PUnit → Prog (TpuEff nD τ sig (Elt F) Λ₀ .tc) α} :
    holds c b a
      ⊢ iprop((holds c b w -∗ wp frame (wpE (defs₀ (F := F)) Variants.none (c : Thread nD τ) none) E (k ⟨⟩) Q)
        -∗ wp frame (wpE (defs₀ (F := F)) Variants.none (c : Thread nD τ) none) E
            (.op (.store commM (halfRect b) (asSlot w) Finset.univ hx hm) k) Q) := by
  unfold holds owns
  iintro ⟨%f, %hf, H⟩ Hk
  iapply (wp_store Variants.none (c : Thread nD τ) none E (m := commM) (r := halfRect b) (w := asSlot w) (Mk := Finset.univ)
    (S := (half commM b).view.set) (f := f) (by
      rw [View.setOn_univ, half_set, View.set_slice]; exact (Finset.map_refl (s := (halfRect b).set)).subset)) $$ H
  iintro H
  iapply Hk
  iexists _
  isplitr
  swap
  · iexact H
  · ipureintro
    exact (congrArg ofSlot (View.read_write_univ (v := commM.view.slice (halfRect b)) f (asSlot w))).trans (ofSlot_asSlot w)

end Cert.TopK

end
-- ==== Proof.Exchange.lean ====
/-
# The exchange between two partners

Devices 2k and 2k + 1 hold the two halves of the same rows. At the last grid point each puts its 32 candidates in half 0
of its exchange buffer, tells its partner that half 1 may be written (one unit of the runtime's barrier semaphore), waits
to be told the same, and sends its half 0 into the partner's half 1.

Three semaphores of a device take part: its *gate* (the barrier), its *sent* and its *landed* semaphore. Each is used for
one round, in which one party pays and the owner waits once; what a payment hands over is stated in `pay`.
-/
module

public import proofs.«01_k».proof.Proof.Scratch
public import proofs.«01_k».proof.Proof.Gen.KernelIdeal.Launch
public import proofs.«01_k».proof.Proof.Gen.KernelIdeal.Points

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

/-- Where the pipeline's cells and the exchange's cells live in the ghost state. -/
abbrev pipeEmb : Emb (UR sig nD τ) (MT nD τ sig Unit (Elt F) ℕ UU ℕ) := embL
abbrev exEmb : Emb (UR sig nD τ) (MT nD τ sig Unit (Elt F) ℕ UU ℕ) := embR

/-! ## Partners -/

/-- The device with the other half of the same rows. -/
def partner (c : Dev nD) : Dev nD := ⟨k0_dev1 c, k0_dev1_lt (grid0.coords t0_7) c (by decide)⟩

theorem partner_val (c : Dev nD) : (partner c).val = 4 * (c.val / 4) + 2 * (c.val / 2 % 2) + 1 - c.val % 2 := k0_dev1_eq c

theorem partner_partner (c : Dev nD) : partner (partner c) = c := by
  apply Fin.ext
  rw [partner_val, partner_val]
  have : c.val < 8 := c.isLt
  omega

/-- The signal and the transfer name the partner. -/
theorem signal_to (i : grid0.Coords) (c : Dev nD) (h : k0_cond1 i = 1#1) : (⟨k0_dev1 c, k0_dev1_lt i c h⟩ : Dev nD) = partner c := rfl
theorem send_to (i : grid0.Coords) (c : Dev nD) (h : k0_cond1 i = 1#1) : (⟨k0_dev2 c, k0_dev2_lt i c h⟩ : Dev nD) = partner c :=
  Fin.ext ((k0_dev2_eq c).trans (k0_dev1_eq c).symm)

/-- Partners change places. -/
def mates : Dev nD ≃ Dev nD := ⟨partner, partner, partner_partner, partner_partner⟩

/-! ## What is computed where -/

section Values

variable (m : (ℓ : Loc nD τ sig) → Buf (Elt F) ℓ)

/-- The grid point of chunk `j`. -/
def pt (j : Fin 8) : Fin cfg0.N := j.cast N_0.symm

/-- Chunk `j` of device `c`'s columns. -/
def chunk (c : Dev nD) (j : Fin 8) : FVec F S1024x1024 .f32 :=
  (win0_0.blk (pt j)).view.read (Elt F) (m ((c : Thread nD τ).loc main_arg0))

/-- Device `c`'s 32 candidates: the best of the best of its chunks. -/
def localTop (c : Dev nD) : FVec F S1024x32 .f32 := best fits256 (join8 fun j => best fits1024 (chunk m c j))

/-- Device `c`'s result: the best of its own candidates and its partner's. -/
def outAt (c : Dev nD) : FVec F S1024x32 .f32 := best fits64 (join2 (localTop m c) (localTop m (partner c)))

end Values

/-! ## The three semaphores of a device -/

/-- The gate (0), sent (1) and landed (2) semaphores. -/
abbrev semOf : Fin 3 → SemLoc sig := fun
  | 0 => .reg gate
  | 1 => .dma cc0_scratch2.sem
  | 2 => .dma cc0_scratch3.sem

theorem semOf_injective : Function.Injective semOf := by
  intro a b h
  fin_cases a <;> fin_cases b <;> first | rfl | exact absurd h (by decide)

/-- Device `c`'s semaphore `k`. -/
abbrev cell (c : Dev nD) (k : Fin 3) : GSem nD τ sig := ((c : Thread nD τ), semOf k)

/-- Which of a device's three semaphores a cell is, if any. -/
def role (g : GSem nD τ sig) : Option (Fin 3) :=
  if g.1.2 = .tc then
    if g.2 = semOf 0 then some 0 else if g.2 = semOf 1 then some 1 else if g.2 = semOf 2 then some 2 else none
  else none

theorem role_cell (c : Dev nD) (k : Fin 3) : role (cell c k) = some k := by
  unfold role
  rw [if_pos rfl]
  fin_cases k
  · exact if_pos rfl
  · exact (if_neg (show ¬ semOf 1 = semOf 0 by decide)).trans (if_pos rfl)
  · exact (if_neg (show ¬ semOf 2 = semOf 0 by decide)).trans ((if_neg (show ¬ semOf 2 = semOf 1 by decide)).trans (if_pos rfl))

/-- The bytes of one half, as a transfer counts them. -/
abbrev halfCredit : ℕ := (half commM 1).view.dmaCredit

theorem halfCredit_pos : 0 < halfCredit := View.dmaCredit_pos _ (by decide)

/-- How much a payment to semaphore `k` is. -/
def price : Fin 3 → ℕ
  | 0 => 1
  | 1 => halfCredit
  | 2 => halfCredit

theorem price_pos (k : Fin 3) : 0 < price k := by
  fin_cases k
  · exact Nat.one_pos
  · exact halfCredit_pos
  · exact halfCredit_pos

section Schedule

variable (m : (ℓ : Loc nD τ sig) → Buf (Elt F) ℓ)

/-- What the payment to semaphore `k` of device `c` hands over: the gate, the right to write the partner's half 1, and that
    the partner waits for it; *sent*, the device's own half 0 back; *landed*, its half 1 with the partner's candidates. -/
def pay (c : Dev nD) : Fin 3 → sProp 𝕄
  | 0 => iprop((∃ a, holds (partner c) 1 a) ∗ reached exEmb (cell (partner c) 2) 0)
  | 1 => holds c 0 (localTop m c)
  | 2 => holds c 1 (localTop m (partner c))

instance pay_storable (c : Dev nD) (k : Fin 3) : BI.Storable (upEmb : UEmb _ 𝕄) (pay m c k) := by
  fin_cases k
  · show BI.Storable upEmb (iprop((∃ a, holds (partner c) 1 a) ∗ reached exEmb (cell (partner c) 2) 0) : sProp 𝕄); infer_instance
  · exact holds_storable c 0 _
  · exact holds_storable c 1 _

/-- One round, one payment, for each of the three semaphores of every device. -/
def rounds : Rounds.Schedule (GSem nD τ sig) Unit 𝕄 where
  duties g r := if r = 0 ∧ (role g).isSome then {()} else ∅
  unitless _ := False
  amount g _ _ := match role g with | some k => price k | none => 1
  payload g _ _ := match role g with | some k => pay m g.1.1 k | none => iprop(emp)
  amount_pos g _ _ _ := by
    cases role g
    · exact Nat.one_pos
    · exact price_pos _

instance rounds_storable (g : GSem nD τ sig) (r : ℕ) (d : Unit) : BI.Storable (upEmb : UEmb _ 𝕄) ((rounds m).payload g r d) := by
  show BI.Storable upEmb (match role g with | some k => pay m g.1.1 k | none => iprop(emp))
  cases role g <;> infer_instance

variable (c : Dev nD) (k : Fin 3)

theorem duties_cell : (rounds m).duties (cell c k) 0 = {()} := if_pos ⟨rfl, by rw [role_cell]; rfl⟩

theorem owed_once : () ∈ (rounds m).duties (cell c k) 0 := by rw [duties_cell]; exact Finset.mem_singleton_self _

theorem duties_later (g : GSem nD τ sig) (r : ℕ) (hr : 1 ≤ r) : (rounds m).duties g r = ∅ := if_neg fun h => by omega

theorem amount_cell : (rounds m).amount (cell c k) 0 () = price k := by
  show (match role (cell c k) with | some k => price k | none => 1) = price k
  rw [role_cell]

theorem payload_cell : (rounds m).payload (cell c k) 0 () = pay m c k := by
  show (match role (cell c k) with | some k => pay m c k | none => iprop(emp)) = pay m c k
  rw [role_cell]

theorem expect_cell : (rounds m).expect (cell c k) 0 = price k := by
  unfold Schedule.expect Schedule.amountOf
  rw [duties_cell, Finset.sum_singleton, amount_cell]

theorem all_due : 0 + price k = (rounds m).expect (cell c k) 0 := by rw [expect_cell, Nat.zero_add]

/-- All that a semaphore's round hands over is that one payment. -/
theorem rest_cell : bigSep ((rounds m).duties (cell c k) 0 \ ∅) (fun u => (rounds m).payload (cell c k) 0 u) = pay m c k := by
  rw [Finset.sdiff_empty, duties_cell, bigSep_singleton, payload_cell]

end Schedule

/-! ## What a device owes, and in which order the waits go -/

/-- From the start a device owes its partner the transfer and the opening of its gate. -/
def debt (c : Dev nD) : CellTallies nD τ sig Unit := tallyAt (cell (partner c) 2) () halfCredit + tallyAt (cell (partner c) 0) () 1

/-- The one tag of every cell of a TensorCore. -/
def tags (g : GSem nD τ sig) : Finset Unit := if g.1.2 = .tc then {()} else ∅

/-- Everything comes before the gates, and the gates before the landings. -/
def order (g : GSem nD τ sig) (_ : Unit) : ℕ := match role g with | some 0 => 1 | some 2 => 2 | _ => 0

theorem tags_none (g : GSem nD τ sig) (h : g.1.2 ≠ .tc) : tags g = ∅ := if_neg h
theorem tags_tc (c : Dev nD) (s : SemLoc sig) : () ∈ tags ((c : Thread nD τ), s) := by
  rw [show tags ((c : Thread nD τ), s) = {()} from if_pos rfl]; exact Finset.mem_singleton_self _

theorem order_cell (c : Dev nD) (k : Fin 3) : order (cell c k) () = match k with | 0 => 1 | 1 => 0 | 2 => 2 := by
  unfold order; rw [role_cell]; fin_cases k <;> rfl

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem debt_pos {c : Dev nD} {g : GSem nD τ sig} {u : Unit} (h : 0 < debt c g u) : g = cell (partner c) 2 ∨ g = cell (partner c) 0 := by
  unfold debt at h
  rw [Pi.add_apply, Finsupp.add_apply] at h
  rcases Nat.eq_zero_or_pos ((tallyAt (cell (partner c) 2) () halfCredit : CellTallies nD τ sig Unit) g u) with h0 | h0
  · rw [h0, Nat.zero_add] at h; exact .inr (tally_pos h)
  · exact .inl (tally_pos h0)

/-- A wait on a semaphore that has no part in the exchange may come while the whole debt stands. -/
theorem wait_before (c : Dev nD) (s : SemLoc sig) (hs : role ((c : Thread nD τ), s) = none) (O : CellTallies nD τ sig Unit) (hO : O = debt c ∨ O = 0) :
    (levAts tags order : sProp 𝕄) ⊢ MayWait (c : Thread nD τ) s () O := by
  rcases hO with rfl | rfl
  · refine MayOwe.of_cut (L := tags) (lev := order) 0 (fun p hp => by rw [Finset.mem_singleton.mp hp]; exact tags_tc c s)
      (fun g u hg => by rcases debt_pos hg with rfl | rfl <;> exact tags_tc _ _)
      (fun p hp => by rw [Finset.mem_singleton.mp hp]; unfold order; dsimp only; rw [hs])
      (fun g u hg => by rcases debt_pos hg with rfl | rfl <;> rw [order_cell] <;> decide)
  · rw [MayWait_zero]; iintro -; iempintro

/-- The wait at the gate may come while the transfer is owed. -/
theorem wait_gate (c : Dev nD) :
    (levAts tags order : sProp 𝕄) ⊢ MayWait (c : Thread nD τ) (semOf 0) () (tallyAt (cell (partner c) 2) () halfCredit) :=
  MayOwe.of_cut (L := tags) (lev := order) 1 (fun p hp => by rw [Finset.mem_singleton.mp hp]; exact tags_tc c _)
    (fun g u hg => by rw [tally_pos hg]; exact tags_tc _ _)
    (fun p hp => by rw [Finset.mem_singleton.mp hp]; exact le_of_eq (order_cell c 0))
    (fun g u hg => by rw [tally_pos hg, order_cell]; decide)

/-! ## What a device holds between grid points -/

section State

variable (m : (ℓ : Loc nD τ sig) → Buf (Elt F) ℓ)

/-- The cells device `c` works at: its own three, its partner's gate and landing. -/
def known (K : Dev nD × Fin 3 → ℕ) (c : Dev nD) : sProp 𝕄 :=
  iprop((cellInv exEmb (rounds m) (K (c, 0)) (cell c 0) ∗ cellInv exEmb (rounds m) (K (c, 1)) (cell c 1) ∗ cellInv exEmb (rounds m) (K (c, 2)) (cell c 2))
    ∗ (cellInv exEmb (rounds m) (K (partner c, 0)) (cell (partner c) 0) ∗ cellInv exEmb (rounds m) (K (partner c, 2)) (cell (partner c) 2))
    ∗ reached exEmb (cell (partner c) 0) 0 ∗ reached exEmb (cell (partner c) 2) 0 ∗ reached exEmb (cell c 1) 0 ∗ reached exEmb (cell c 2) 0)

instance known_persistent (K : Dev nD × Fin 3 → ℕ) (c : Dev nD) : BI.Persistent (known m K c) := by unfold known; infer_instance

/-- The right to make the three payments that device `c` makes. -/
def dues (c : Dev nD) : sProp 𝕄 :=
  iprop(dutyTok exEmb (cell (partner c) 0) 0 () ∗ dutyTok exEmb (cell c 1) 0 () ∗ dutyTok exEmb (cell (partner c) 2) 0 ())

/-- Device `c` stands at the start of its three rounds. -/
def stands (c : Dev nD) : sProp 𝕄 := iprop(atPos exEmb (cell c 0) 0 ∅ 0 ∗ atPos exEmb (cell c 1) 0 ∅ 0 ∗ atPos exEmb (cell c 2) 0 ∅ 0)

/-- What the launch deals device `c` for the exchange, -/
def dealt (c : Dev nD) : sProp 𝕄 := iprop(∃ K, known m K c ∗ stands c ∗ dues c)

/-- and with it what it is promised and the order of the waits. -/
def ready (c : Dev nD) : sProp 𝕄 :=
  iprop(dealt m c ∗ cred (tallyAt (cell c 0) () 1) ∗ cred (tallyAt (cell c 2) () halfCredit) ∗ levAts tags order)

/-- The candidate scratch once the chunks below `n` are done: their slots hold their candidates. -/
def cands (c : Dev nD) (n : ℕ) : sProp 𝕄 :=
  iprop(∃ f, ⌜∀ j : Fin 8, j.val < n → slotOf f j = best fits1024 (chunk m c j)⌝ ∗ ((c : Thread nD τ).loc cc0_scratch0 ↦{fullShare} f))

/-- Between two points: the exchange not begun. -/
def before (c : Dev nD) (n : ℕ) : sProp 𝕄 := iprop(ready m c ∗ cands m c n ∗ (∃ a, holds c 0 a) ∗ ∃ a, holds c 1 a)

/-- After the last point: the scratch arrays, and the three semaphores back at zero. -/
def done (c : Dev nD) : sProp 𝕄 :=
  iprop((∃ f, (c : Thread nD τ).loc cc0_scratch0 ↦{fullShare} f) ∗ (∃ f, (c : Thread nD τ).loc cc0_scratch1 ↦{fullShare} f)
    ∗ semVal (cell c 0) 0 ∗ semVal (cell c 1) 0 ∗ semVal (cell c 2) 0)

/-- The proof's data for the pipeline: the arrays' contents at the start, each window's contents after a point, and the above. -/
def dats (_ : Fin 1) (c : Dev nD) : Dat τ (Elt F) Unit ℕ UU ℕ cfg0 c where
  A w := m ((cfg0.win w).arr.view.loc (c : Thread nD τ))
  after w t := match w with
    | ⟨0, _⟩ => chunk m c (t.cast N_0)
    | ⟨1, _⟩ => outAt m c
  Φ t := if t.val < 8 then before m c t.val else done c
  q _ := fullShare
  owed t := if t.val < 8 then debt c else 0

end State

end Cert.TopK

end
-- ==== Proof.Body.lean ====
/-
# The body keeps the state

At every grid point the kernel's body takes what a device holds before the point to what it holds after it: at the first
seven points it fills one candidate slot; at the last it fills the eighth, merges, exchanges and merges again.
-/
module

public import proofs.«01_k».proof.Proof.Exchange

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- Device `c` runs `p` safely to `Q`. -/
abbrev Runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A device that asks which one it is is told. -/
theorem who_am_i (c : Dev nD) {α : Type} {Q : α → sProp 𝕄} {k : Dev nD → Prog (TpuEff nD τ sig (Elt F) Λ₀ .tc) α} :
    Runs c (k c) Q ⊢ Runs c (.op .deviceId k) Q := by
  unfold Runs; rw [wp_deviceId]

/-- At the end of a program its result's claim is due, -/
theorem finished (c : Dev nD) {α : Type} {Q : α → sProp 𝕄} {a : α} : Q a ⊢ Runs c (.ret a) Q := by
  unfold Runs; rw [wp_ret]; iintro H; imodintro; iexact H

/-- possibly after some more updates. -/
theorem finished_upd (c : Dev nD) {α : Type} {Q : α → sProp 𝕄} {a : α} : iprop(|={Set.univ}=> Q a) ⊢ Runs c (.ret a) Q := by
  unfold Runs; rw [wp_ret]

/-! ## The candidate scratch, point by point -/

section Slots

variable (c : Dev nD)

/-- The slot that a point loads before filling it: what is found does not matter. -/
theorem skip_slot {α : Type} {Q : α → sProp 𝕄} {off : Fin 3 → ℕ} {inb : ∀ a, off a + S1x1024x32.size a ≤ S8x1024x32.size a} (j : Fin 8) (hoff : off = ![j.val, 0, 0]) {n : ℕ}
    {hl : candM.view.LoadsAt (Rect.unit (s := S8x1024x32) off S1x1024x32.size inb).toLoadRect}
    {k : (S1x1024x32.Idx → Elt F .f32) → Prog (TpuEff nD τ sig (Elt F) Λ₀ .tc) α} :
    cands m c n ⊢ iprop((∀ v, cands m c n -∗ Runs c (k v) Q)
        -∗ Runs c (.op (.load candM (Rect.unit (s := S8x1024x32) off S1x1024x32.size inb).toLoadRect hl) k) Q) := by
  subst hoff
  unfold cands
  iintro ⟨%f, %hf, H⟩ Hk
  iapply (load_slot c j) $$ H
  iintro H
  iapply Hk
  iexists f
  isplitr; · ipureintro; exact hf
  iexact H

/-- Filling slot `n` with the candidates of chunk `n`. -/
theorem fill_slot {α : Type} {Q : α → sProp 𝕄} {off : Fin 3 → ℕ} {inb : ∀ a, off a + S1x1024x32.size a ≤ S8x1024x32.size a} (j : Fin 8) (hoff : off = ![j.val, 0, 0])
    {n : ℕ} (hn : j.val = n)
    {hx : (candM.access (Rect.unit (s := S8x1024x32) off S1x1024x32.size inb)).Stores Finset.univ}
    {hm : (Finset.univ : Finset (Rect.unit (s := S8x1024x32) off S1x1024x32.size inb).shape.Idx) = Finset.univ
      ∨ ∀ a, (Rect.unit (s := S8x1024x32) off S1x1024x32.size inb).stride a = 1}
    {k : PUnit → Prog (TpuEff nD τ sig (Elt F) Λ₀ .tc) α} :
    cands m c n ⊢ iprop((cands m c (n + 1) -∗ Runs c (k ⟨⟩) Q)
        -∗ Runs c (.op (.store candM (Rect.unit (s := S8x1024x32) off S1x1024x32.size inb) (asSlot (best fits1024 (chunk m c j))) Finset.univ hx hm) k) Q) := by
  subst hoff hn
  unfold cands
  iintro ⟨%f, %hf, H⟩ Hk
  iapply (wp_store Variants.none (c : Thread nD τ) none Set.univ (m := candM) (r := candRect j) (Mk := Finset.univ) (f := f)
    (Finset.subset_univ _)) $$ H
  iintro H
  iapply Hk
  iexists _
  isplitr
  swap
  · iexact H
  · ipureintro
    intro i hi
    rw [slotOf_store]
    split_ifs with h
    · rw [h]
    · exact hf i (by have : i.val ≠ j.val := fun h' => h (Fin.ext h'); omega)

/-- Once all slots are filled, slot `j` is found to hold chunk `j`'s candidates. -/
theorem read_slot {α : Type} {Q : α → sProp 𝕄} (j : Fin 8) {hl : candM.view.LoadsAt (candRect j).toLoadRect}
    {k : (S1x1024x32.Idx → Elt F .f32) → Prog (TpuEff nD τ sig (Elt F) Λ₀ .tc) α} :
    cands m c 8 ⊢ iprop((cands m c 8 -∗ Runs c (k (asSlot (best fits1024 (chunk m c j)))) Q)
        -∗ Runs c (.op (.load candM (candRect j).toLoadRect hl) k) Q) := by
  unfold cands
  iintro ⟨%f, %hf, H⟩ Hk
  iapply (load_slot c j) $$ H
  iintro H
  rw [hf j j.isLt]
  iapply Hk
  iexists f
  isplitr; · ipureintro; exact hf
  iexact H

end Slots

/-- The eight slots read give the device's own candidates. -/
theorem merged (c : Dev nD) :
    best fits256 (join8 fun j => ofSlot (F := F) (eight (asSlot (best fits1024 (chunk m c 0))) (asSlot (best fits1024 (chunk m c 1)))
      (asSlot (best fits1024 (chunk m c 2))) (asSlot (best fits1024 (chunk m c 3))) (asSlot (best fits1024 (chunk m c 4)))
      (asSlot (best fits1024 (chunk m c 5))) (asSlot (best fits1024 (chunk m c 6))) (asSlot (best fits1024 (chunk m c 7))) j)) = localTop m c := by
  unfold localTop
  refine congrArg (fun f => best fits256 (join8 f)) (funext fun j => ?_)
  fin_cases j <;> exact ofSlot_asSlot _

/-! ## The exchange -/

section Exchange

variable (K : Dev nD × Fin 3 → ℕ) (c : Dev nD)

/-- Opening the partner's gate: half 1 of the own buffer goes with it. -/
theorem open_gate (n : Dev nD) (hn : n = partner c) {α : Type} {Q : α → sProp 𝕄} {k : PUnit → Prog (TpuEff nD τ sig (Elt F) Λ₀ .tc) α} (W : Waits sig Unit) :
    iprop(cellInv exEmb (rounds m) (K (partner c, 0)) (cell (partner c) 0) ∗ owes (c : Thread nD τ) (debt c) W
        ∗ dutyTok exEmb (cell (partner c) 0) 0 () ∗ (∃ a, holds c 1 a) ∗ reached exEmb (cell c 2) 0 ∗ reached exEmb (cell (partner c) 0) 0)
      ⊢ iprop((owes (c : Thread nD τ) (tallyAt (cell (partner c) 2) () halfCredit) W -∗ Runs c (k ⟨⟩) Q)
          -∗ Runs c (.op (.semSignal (n : Thread nD τ) gate (price 0)) k) Q) := by
  subst hn
  iintro ⟨HI, HO, Ht, Hh, Hr, Hr'⟩ Hk
  unfold debt
  iapply (Rounds.wp_signal Variants.none exEmb (rounds m) (c : Thread nD τ) none (dst := (partner c : Thread nD τ)) (κ := K (partner c, 0))
      (owed_once m (partner c) 0) (amount_cell m (partner c) 0) () (tallyAt (cell (partner c) 2) () halfCredit) rfl) $$ [HI HO Ht Hh Hr Hr'] Hk
  isplitl [HI]; · iexact HI
  isplitl [HO]; · iexact HO
  isplitl [Ht]; · iexact Ht
  isplitl [Hh Hr]
  · have h : iprop((∃ a, holds c 1 a) ∗ reached exEmb (cell c 2) 0) = (rounds m).payload (cell (partner c) 0) 0 () := by
      rw [payload_cell]
      show _ = iprop((∃ a, holds (partner (partner c)) 1 a) ∗ reached exEmb (cell (partner (partner c)) 2) 0)
      rw [partner_partner]
    iapply (Entails.of_eq h)
    isplitl [Hh] <;> iassumption
  · iexact Hr'

/-- A wait for the one payment to the own semaphore `j`: what it hands over arrives. -/
theorem await (j : Fin 3) {w : TpuEff nD τ sig (Elt F) Λ₀ .tc PUnit}
    (hw : ∀ P : PUnit → sProp 𝕄, wpE (defs₀ (F := F)) Variants.none (c : Thread nD τ) none Set.univ w P = waitSpec (c : Thread nD τ) Set.univ (semOf j) (price j) P)
    {α : Type} {Q : α → sProp 𝕄} {k : PUnit → Prog (TpuEff nD τ sig (Elt F) Λ₀ .tc) α} (O : CellTallies nD τ sig Unit) (W : Waits sig Unit) :
    iprop(cellInv exEmb (rounds m) (K (c, j)) (cell c j) ∗ cred (tallyAt (cell c j) () (price j)) ∗ owes (c : Thread nD τ) O W
        ∗ MayWait (c : Thread nD τ) (semOf j) () O ∗ atPos exEmb (cell c j) 0 ∅ 0)
      ⊢ iprop(((∃ W', owes (c : Thread nD τ) O W') ∗ atPos exEmb (cell c j) (0 + 1) ∅ 0 ∗ pay m c j -∗ Runs c (k ⟨⟩) Q) -∗ Runs c (.op w k) Q) := by
  iintro H Hk
  iapply (Rounds.wp_wait_rest_token Variants.none exEmb (rounds m) (c : Thread nD τ) none (κ := K (c, j)) hw (Set.mem_univ _) ()
    (O := O) (W := W) (R := 0) (m := 0) (T := ∅) (all_due m c j)) $$ H
  iintro ⟨HO, Ha, -, Hp⟩
  iapply Hk
  isplitl [HO]; · iexists _; iexact HO
  isplitl [Ha]; · iexact Ha
  iapply (Entails.of_eq (rest_cell m c j)); iexact Hp

/-- The transfer, whichever way its target is written: half 0 goes to the partner's half 1. -/
theorem send_half (n : Dev nD) (hn : n = partner c) {hsc : (half commM 1 : Memref sig (Dev.tc n : Thread nD τ).2.kind .vmem S1024x32 .f32).view.ref.isScScratch = false}
    {hsrc : (half commM 0).view.WordExact} {hdst : (half commM 1).view.WordExact}
    {hsem : DmaTarget.Typed .vmem (.dma cc0_scratch3.sem) (.remote (Dev.tc n : Thread nD τ) (half commM 1) (.dma cc0_scratch2.sem) hsc)}
    {α : Type} {Q : α → sProp 𝕄} {k : PUnit → Prog (TpuEff nD τ sig (Elt F) Λ₀ .tc) α} (b : FVec F S1024x32 .f32) (W : Waits sig Unit) :
    iprop(cellInv exEmb (rounds m) (K (c, 1)) (cell c 1) ∗ cellInv exEmb (rounds m) (K (partner c, 2)) (cell (partner c) 2)
        ∗ holds c 0 (localTop m c) ∗ holds (partner c) 1 b
        ∗ owes (c : Thread nD τ) (tallyAt (cell (partner c) 2) () halfCredit) W
        ∗ dutyTok exEmb (cell c 1) 0 () ∗ reached exEmb (cell c 1) 0
        ∗ dutyTok exEmb (cell (partner c) 2) 0 () ∗ reached exEmb (cell (partner c) 2) 0)
      ⊢ iprop(((cred (tallyAt (cell c 1) () halfCredit) ∗ owes (c : Thread nD τ) 0 W) -∗ Runs c (k ⟨⟩) Q)
          -∗ Runs c (.op (.enqueueDma (half commM 0) (.remote (Dev.tc n : Thread nD τ) (half commM 1) (.dma cc0_scratch2.sem) hsc)
              (.dma cc0_scratch3.sem) hsrc hdst hsem) k) Q) := by
  subst hn
  iintro ⟨HIs, HIl, Hsrc, Hdst, Ho, Hts, Hrs, Htl, Hrl⟩ Hk
  unfold holds owns
  icases Hsrc with ⟨%fs, %hfs, Hsrc⟩
  icases Hdst with ⟨%fd, -, Hdst⟩
  iapply (Rounds.wp_send_pointsTo Variants.none exEmb (rounds m) (c : Thread nD τ) none (κ₁ := K (c, 1)) (κ₂ := K (partner c, 2))
    (r₁ := 0) (r₂ := 0) (d₁ := ()) (d₂ := ()) (fs := fs) (fd := fd) (owed_once m c 1) (owed_once m (partner c) 2)
    () () halfCredit rfl (amount_cell m c 1) (amount_cell m (partner c) 2) 0 (by rw [zero_add]) (W := W)
    (by rw [payload_cell, show pay m c 1 = holds c 0 (localTop m c) from rfl, ← hfs]; exact owns_intro (c : Thread nD τ) (half commM 0) fullShare fs)
    (by
      rw [payload_cell, show pay m (partner c) 2 = holds (partner c) 1 (localTop m (partner (partner c))) from rfl, partner_partner]
      refine (owns_intro (partner c : Thread nD τ) (half commM 1) fullShare _).trans (Entails.of_eq ?_)
      unfold holds
      refine congrArg _ ?_
      rw [View.read_write_univ, hfs])) $$ [HIs HIl Hsrc Hdst Ho Hts Hrs Htl Hrl] Hk
  isplitl [HIs]; · iexact HIs
  isplitl [HIl]; · iexact HIl
  isplitl [Hsrc]; · iexact Hsrc
  isplitl [Hdst]; · iexact Hdst
  isplitl [Ho]; · iexact Ho
  isplitl [Hts]; · iexact Hts
  isplitl [Hrs]; · iexact Hrs
  isplitl [Htl]; · iexact Htl
  iexact Hrl

end Exchange

/-! ## The grid points -/

section Points

variable (c : Dev nD) (t : Fin cfg0.N)

/-- Point `t`'s one coordinate is `t`. -/
theorem coord_val : (grid0.coords t 0).val = t.val := by
  rcases fin_N0 t with h | h | h | h | h | h | h | h <;> subst h <;> decide

/-- Only the last point exchanges. -/
theorem cond_iff : k0_cond1 (grid0.coords t) = 1#1 ↔ t.val = 7 := by
  rcases fin_N0 t with h | h | h | h | h | h | h | h <;> subst h <;> decide

theorem slot_off : k0_off1 (grid0.coords t) = ![(t.cast N_0 : Fin 8).val, 0, 0] := by
  rw [k0_off1_eq, coord_val]; rfl

/-- The chunk is fetched at every point. -/
theorem found (d) : (dats m 0 c).before (0 : Fin 2) t d = chunk m c (t.cast N_0) := by
  unfold Dat.before; rw [if_pos (fetch0_0 t)]; rfl

theorem state_before (ht : t.val < 8) : (dats m 0 c).Φ t.castSucc = before m c t.val := if_pos ht
theorem owed_before (ht : t.val < 8) : (dats m 0 c).owed t.castSucc = debt c := if_pos ht
theorem state_early (ht : t.val < 7) : (dats m 0 c).Φ t.succ = before m c (t.val + 1) := if_pos (by show t.val + 1 < 8; omega)
theorem owed_early (ht : t.val < 7) : (dats m 0 c).owed t.succ = debt c := if_pos (by show t.val + 1 < 8; omega)
theorem state_last (ht : t.val = 7) : (dats m 0 c).Φ t.succ = done c := if_neg (by show ¬ t.val + 1 < 8; omega)
theorem owed_last (ht : t.val = 7) : (dats m 0 c).owed t.succ = 0 := if_neg (by show ¬ t.val + 1 < 8; omega)

theorem zero_off : (![0, 0] : Fin 2 → ℕ) = fun _ => 0 := funext fun a => by fin_cases a <;> rfl

/-- At a point before the last the body fills one slot; the output buffer is not touched. -/
theorem early_point (ht : t.val < 7) (R : sProp 𝕄) :
    iprop((dats m 0 c).Φ t.castSucc ∗ (dats m 0 c).owesAt () t.castSucc
        ∗ (∃ d, owns (c : Thread nD τ) (st0_0 t) fullShare ((dats m 0 c).before (0 : Fin 2) t d)) ∗ R)
      ⊢ Runs c (bodyAt0 t) fun _ => iprop((dats m 0 c).Φ t.succ ∗ (dats m 0 c).owesAt () t.succ
          ∗ owns (c : Thread nD τ) (st0_0 t) fullShare (chunk m c (t.cast N_0)) ∗ R) := by
  unfold bodyAt0
  rw [body_eq]
  unfold body
  rw [dif_neg (fun h => by have := (cond_iff t).mp h; omega)]
  simp only [Prog.lift, Prog.bind_op, Prog.bind_ret, Prog.pure_eq_ret]
  rw [state_before m c t (by omega), state_early m c t ht]
  unfold Dat.owesAt
  rw [owed_before m c t (by omega), owed_early m c t ht]
  unfold before Pipeline.owesWithin
  iintro ⟨⟨Hready, Hc, H0, H1⟩, ⟨%W, %hW, HO⟩, ⟨%d, Hx⟩, HR⟩
  rw [found]
  iapply (load_all (st0_0 t) zero_off inb_S1024x1024_S1024x1024_0_0 c) $$ Hx
  iintro Hx
  iapply (skip_slot m c (t.cast N_0) (slot_off t)) $$ Hc
  iintro %v Hc
  iapply (fill_slot m c (t.cast N_0) (slot_off t) (n := t.val) rfl) $$ Hc
  iintro Hc
  iapply (finished c)
  isplitl [Hready Hc H0 H1]
  · isplitl [Hready]; · iexact Hready
    isplitl [Hc]; · iexact Hc
    isplitl [H0] <;> iassumption
  isplitl [HO]
  · iexists W
    isplitr; · ipureintro; exact fun _ _ => Or.inl trivial
    iexact HO
  isplitl [Hx] <;> iassumption

set_option maxHeartbeats 1000000 in
/-- At the last point the body fills the last slot, merges the slots, exchanges with the partner and leaves the result. -/
theorem last_point (ht : t.val = 7) :
    iprop((dats m 0 c).Φ t.castSucc ∗ (dats m 0 c).owesAt () t.castSucc
        ∗ (∃ d, owns (c : Thread nD τ) (st0_0 t) fullShare ((dats m 0 c).before (0 : Fin 2) t d))
        ∗ (∃ X, owns (c : Thread nD τ) (st0_1 t) fullShare X))
      ⊢ Runs c (bodyAt0 t) fun _ => iprop((dats m 0 c).Φ t.succ ∗ (dats m 0 c).owesAt () t.succ
          ∗ owns (c : Thread nD τ) (st0_0 t) fullShare (chunk m c (t.cast N_0)) ∗ owns (c : Thread nD τ) (st0_1 t) fullShare (outAt m c)) := by
  have hc : k0_cond1 (grid0.coords t) = 1#1 := (cond_iff t).mpr ht
  unfold bodyAt0
  rw [body_eq]
  unfold body
  rw [dif_pos hc]
  unfold finish
  simp only [readCand, semSignalWord, semWaitWord, Prog.lift, Prog.bind_op, Prog.bind_ret, Prog.pure_eq_ret]
  rw [state_before m c t (by omega), state_last m c t ht]
  unfold Dat.owesAt
  rw [owed_before m c t (by omega), owed_last m c t ht]
  unfold before ready dealt known stands dues Pipeline.owesWithin
  iintro ⟨⟨⟨⟨%K, ⟨⟨#HIg, #HIs, #HIl⟩, ⟨#HIgP, #HIlP⟩, #HrgP, #HrlP, #Hrs, #Hrl⟩, ⟨Hag, Has, Hal⟩, ⟨Htg, Hts, Htl⟩⟩, Hcg, Hcl, #Hlev⟩, Hc, ⟨%a0, H0⟩, ⟨%a1, H1⟩⟩,
    ⟨%W, %hW, HO⟩, ⟨%d, Hx⟩, ⟨%X, Hout⟩⟩
  rw [found]
  -- the last chunk
  iapply (load_all (st0_0 t) zero_off inb_S1024x1024_S1024x1024_0_0 c) $$ Hx
  iintro Hx
  iapply (skip_slot m c (t.cast N_0) (slot_off t)) $$ Hc
  iintro %v Hc
  iapply (fill_slot m c (t.cast N_0) (slot_off t) (n := t.val) rfl) $$ Hc
  iintro Hc
  rw [ht]
  iapply (who_am_i c)
  -- the slots merged
  iapply (read_slot m c 0) $$ Hc; iintro Hc
  iapply (read_slot m c 1) $$ Hc; iintro Hc
  iapply (read_slot m c 2) $$ Hc; iintro Hc
  iapply (read_slot m c 3) $$ Hc; iintro Hc
  iapply (read_slot m c 4) $$ Hc; iintro Hc
  iapply (read_slot m c 5) $$ Hc; iintro Hc
  iapply (read_slot m c 6) $$ Hc; iintro Hc
  iapply (read_slot m c 7) $$ Hc; iintro Hc
  simp only [merged]
  iapply (load_half c 0) $$ H0; iintro H0
  iapply (store_half c 0) $$ H0; iintro H0
  -- the partner's gate opened: it may write half 1 here
  iapply (open_gate m K c _ (signal_to _ c hc) W) $$ [HO Htg H1]
  · isplitr; · iexact HIgP
    isplitl [HO]; · iexact HO
    isplitl [Htg]; · iexact Htg
    isplitl [H1]; · iexists a1; iexact H1
    isplitr; · iexact Hrl
    iexact HrgP
  iintro HO
  -- the own gate
  iapply (await m K c 0 (fun _ => rfl) (tallyAt (cell (partner c) 2) () halfCredit) W) $$ [Hcg HO Hag]
  · isplitr; · iexact HIg
    isplitl [Hcg]; · iexact Hcg
    isplitl [HO]; · iexact HO
    isplitr; · iapply (wait_gate c); iexact Hlev
    iexact Hag
  iintro ⟨⟨%W1, HO⟩, Hag, Hp⟩
  ihave Hp := (show pay m c 0 ⊢ iprop((∃ a, holds (partner c) 1 a) ∗ reached exEmb (cell (partner c) 2) 0) from BI.Entails.refl _) $$ Hp
  icases Hp with ⟨⟨%b, Hb⟩, -⟩
  -- the transfer
  iapply (send_half m K c _ (send_to _ c hc) b W1) $$ [H0 Hb HO Hts Htl]
  · isplitr; · iexact HIs
    isplitr; · iexact HIlP
    isplitl [H0]; · iexact H0
    isplitl [Hb]; · iexact Hb
    isplitl [HO]; · iexact HO
    isplitl [Hts]; · iexact Hts
    isplitr; · iexact Hrs
    isplitl [Htl]; · iexact Htl
    iexact HrlP
  iintro ⟨Hcs, HO⟩
  -- half 0 is free again
  iapply (await m K c 1 (fun _ => rfl) 0 W1) $$ [Hcs HO Has]
  · isplitr; · iexact HIs
    isplitl [Hcs]; · iexact Hcs
    isplitl [HO]; · iexact HO
    isplitr; · rw [MayWait_zero]; iempintro
    iexact Has
  iintro ⟨⟨%W2, HO⟩, Has, Hp⟩
  ihave H0 := (show pay m c 1 ⊢ holds c 0 (localTop m c) from BI.Entails.refl _) $$ Hp
  -- half 1 holds the partner's candidates
  iapply (await m K c 2 (fun _ => rfl) 0 W2) $$ [Hcl HO Hal]
  · isplitr; · iexact HIl
    isplitl [Hcl]; · iexact Hcl
    isplitl [HO]; · iexact HO
    isplitr; · rw [MayWait_zero]; iempintro
    iexact Hal
  iintro ⟨⟨%W3, HO⟩, Hal, Hp⟩
  ihave H1 := (show pay m c 2 ⊢ holds c 1 (localTop m (partner c)) from BI.Entails.refl _) $$ Hp
  -- the second merge
  iapply (load_half c 1) $$ H1; iintro H1
  simp only [ofSlot_asSlot]
  iapply (load_all (st0_1 t) zero_off inb_S1024x32_S1024x32_0_0 c) $$ Hout
  iintro Hout
  iapply (store_all (st0_1 t) zero_off inb_S1024x32_S1024x32_0_0 c) $$ Hout
  iintro Hout
  iapply (finished_upd c)
  -- the three semaphores close
  imod (Rounds.cell_close exEmb (rounds m) (Set.mem_univ (K (c, 0))) (fun h => h) (R := 0 + 1) (duties_later m (cell c 0))) $$ [Hag] with Hzg
  · isplitr; · iexact HIg
    iexact Hag
  imod (Rounds.cell_close exEmb (rounds m) (Set.mem_univ (K (c, 1))) (fun h => h) (R := 0 + 1) (duties_later m (cell c 1))) $$ [Has] with Hzs
  · isplitr; · iexact HIs
    iexact Has
  imod (Rounds.cell_close exEmb (rounds m) (Set.mem_univ (K (c, 2))) (fun h => h) (R := 0 + 1) (duties_later m (cell c 2))) $$ [Hal] with Hzl
  · isplitr; · iexact HIl
    iexact Hal
  ihave Hh := (halves_join c (localTop m c) (localTop m (partner c))) $$ [H0 H1]
  · isplitl [H0] <;> iassumption
  imodintro
  isplitl [Hc Hh Hzg Hzs Hzl]
  · unfold done cands
    icases Hc with ⟨%f, -, Hc⟩
    isplitl [Hc]; · iexists f; iexact Hc
    isplitl [Hh]; · iexact Hh
    isplitl [Hzg]; · iexact Hzg
    isplitl [Hzs] <;> iassumption
  isplitl [HO]
  · iexists W3
    isplitr; · ipureintro; exact fun _ _ => Or.inl trivial
    iexact HO
  isplitl [Hx]; · iexact Hx
  iexact Hout

/-- At an early point nothing is asked of the output buffer; at the last it must hold the result. -/
theorem out_early (ht : t.val < 7) :
    (dats m 0 c).leavesExact (1 : Fin 2) t = iprop(∃ d, owns (c : Thread nD τ) (st0_1 t) fullShare ((dats m 0 c).before (1 : Fin 2) t d)) := by
  refine Dat.leavesExact_idle _ _ _ ?_ ?_
  · show (!(k0_cond1 (grid0.coords t) == 1#1)) = true
    rw [Bool.not_eq_true', beq_eq_false_iff_ne]
    exact fun h => by have := (cond_iff t).mp h; omega
  · exact Bool.eq_false_iff.mpr fun h => by have := (flush0_1 t).mp h; omega

theorem out_last (ht : t.val = 7) :
    (dats m 0 c).leavesExact (1 : Fin 2) t = owns (c : Thread nD τ) (st0_1 t) fullShare (outAt m c) := by
  have h : cfg0.idle (1 : Fin 2) (cfg0.grid.coords t) = false := by
    show (!(k0_cond1 (grid0.coords t) == 1#1)) = false
    rw [(cond_iff t).mpr ht]; rfl
  unfold Dat.leavesExact
  rw [h]
  rfl

/-- The body keeps the state at every point. -/
theorem keeps (c : Dev nD) : BodyObligation (dats m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before (0 : Fin 2) t d))
      ∗ (∃ d, owns (c : Thread nD τ) (st0_1 t) fullShare ((dats m 0 c).before (1 : Fin 2) t d)))
    ⊢ Runs c (bodyAt0 t) fun _ => iprop((dats m 0 c).Φ t.succ ∗ (dats m 0 c).owesAt () t.succ
        ∗ owns (c : Thread nD τ) (st0_0 t) fullShare (chunk m c (t.cast N_0)) ∗ (dats m 0 c).leavesExact (1 : Fin 2) t)
  have h8 : t.val < 8 := lt_of_lt_of_eq t.isLt N_0
  by_cases ht : t.val < 7
  · rw [out_early m c t ht]
    exact early_point m c t ht _
  · rw [out_last m c t (by omega)]
    iintro ⟨HΦ, HO, Hx, ⟨%d, Hout⟩⟩
    iapply (last_point m c t (by omega))
    isplitl [HΦ]; · iexact HΦ
    isplitl [HO]; · iexact HO
    isplitl [Hx]; · iexact Hx
    iexists _; iexact Hout

end Points

end Cert.TopK

end
-- ==== Proof.Run.lean ====
/-
# The run

The eight devices are launched together: the launch deals each device its cells, its place in their rounds and the right
to make its payments, and every run then ends with each device's result in place, its argument as it was and every
semaphore at zero.
-/
module

public import proofs.«01_k».proof.Proof.Body
public import Idealize.ShloMosaic.Lib.Pipeline.Launch
public import Idealize.ShloMosaic.Lib.Pipeline.CollectiveSegs

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and payments at the start -/

/-- The two semaphores that belong to the launch itself: *sent* and *landed*. -/
abbrev ownSem : Fin 2 → SemLoc sig := fun
  | 0 => semOf 1
  | 1 => semOf 2

theorem ownSem_facts : Pipeline.OwnSemFacts cfg0.spec ownSem := by decide

theorem cell_inj : Function.Injective fun x : Dev nD × Fin 3 => cell x.1 x.2 := by
  rintro ⟨c, k⟩ ⟨c', k'⟩ h
  have hc : c = c' := congrArg (fun g : GSem nD τ sig => g.1.1) h
  have hk : k = k' := semOf_injective (congrArg Prod.snd h)
  rw [hc, hk]

/-- The exchange's cells, and the one payment to each. -/
def exCells : Finset (GSem nD τ sig) := Finset.univ.map ⟨fun x : Dev nD × Fin 3 => cell x.1 x.2, cell_inj⟩
def exDues : Finset (GSem nD τ sig × ℕ × Unit) :=
  Finset.univ.map ⟨fun x : Dev nD × Fin 3 => (cell x.1 x.2, 0, ()), fun _ _ h => cell_inj (congrArg Prod.fst h)⟩

/-- The ghost state at launch. -/
def ghost₀ : UU := (initOf (Pipeline.cells cfgs cellOf_inj) (Pipeline.launchToks cfgs cellOf_inj), initOf exCells exDues)

theorem sep3 (Φ : Fin 3 → sProp 𝕄) : bigSep Finset.univ Φ = iprop(Φ 0 ∗ Φ 1 ∗ Φ 2) :=
  bigSep_univ_eq_bigSepL [0, 1, 2] (by decide) (by decide) Φ

/-- What the ghost state holds for device `c`'s own cells: their rounds not begun, their positions, their payments. -/
def share (c : Dev nD) : sProp 𝕄 :=
  iprop((bigSep Finset.univ fun k : Fin 3 => roundState exEmb (rounds m) (cell c k) 0)
    ∗ (bigSep Finset.univ fun k : Fin 3 => iprop(atPos exEmb (cell c k) 0 ∅ 0 ∗ reached exEmb (cell c k) 0))
    ∗ bigSep Finset.univ fun k : Fin 3 => dutyTok exEmb (cell c k) 0 ())

theorem deal_shares : BI.own (exEmb (initOf exCells exDues)) ⊢ (|==> bigSep Finset.univ (share m) : sProp 𝕄) := by
  have hcell (Φ : GSem nD τ sig → sProp 𝕄) :
      bigSep exCells Φ = bigSep Finset.univ fun c : Dev nD => bigSep Finset.univ fun k : Fin 3 => Φ (cell c k) := by
    unfold exCells; rw [bigSep_map, bigSep_univ_prod]; rfl
  have hdue : bigSep exDues (fun x => (dutyTok exEmb x.1 x.2.1 x.2.2 : sProp 𝕄))
      = bigSep Finset.univ fun c : Dev nD => bigSep Finset.univ fun k : Fin 3 => dutyTok exEmb (cell c k) 0 () := by
    unfold exDues; rw [bigSep_map, bigSep_univ_prod]; rfl
  iintro H
  imod (Rounds.fund exEmb (rounds m) exCells exDues) $$ H with ⟨Hst, Hre, Hat, Hdu⟩
  imodintro
  ihave Hst := (Entails.of_eq (hcell fun g => roundState exEmb (rounds m) g 0)) $$ Hst
  ihave Hat := (Entails.of_eq (hcell fun g => atPos exEmb g 0 ∅ 0)) $$ Hat
  ihave Hre := (Entails.of_eq (hcell fun g => reached exEmb g 0)) $$ Hre
  ihave Hdu := (Entails.of_eq hdue) $$ Hdu
  unfold share; simp only [bigSep_sep']
  isplitl [Hst]; · iexact Hst
  isplitl [Hat Hre]
  · isplitl [Hat] <;> iassumption
  iexact Hdu

/-! ## Every cell under its invariant -/

theorem ownSems_eq (c : Dev nD) : (Pipeline.ownSems0 (Ix := Unit) (Name := ℕ) (U := UU) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl

theorem restSems_eq (c : Dev nD) : (unscopedSems0 c : sProp 𝕄) = semVal (cell c 0) 0 := by
  unfold unscopedSems0; rw [bigSep_eq_bigSepL_of_eq [semOf 0] (by decide) (by decide)]; rfl

/-- What every device comes to know of its cells, and what it keeps of its share. -/
def opened (c : Dev nD) : sProp 𝕄 :=
  iprop((bigSep Finset.univ fun k : Fin 3 => iprop(∃ κ : ℕ, cellInv exEmb (rounds m) κ (cell c k)))
    ∗ (bigSep Finset.univ fun k : Fin 3 => iprop(atPos exEmb (cell c k) 0 ∅ 0 ∗ reached exEmb (cell c k) 0))
    ∗ bigSep Finset.univ fun k : Fin 3 => dutyTok exEmb (cell c k) 0 ())

theorem open_cells (c : Dev nD) :
    iprop(Pipeline.ownSems0 (Ix := Unit) (Name := ℕ) (U := UU) (Lvl := ℕ) (Val := Elt F) (τ := τ) ownSem c ∗ unscopedSems0 c ∗ share m c)
      ⊢ |={Set.univ}=> opened m c := by
  rw [ownSems_eq, restSems_eq]
  unfold share opened
  iintro ⟨⟨Hs, Hl⟩, Hg, Hst, Hat, Hdu⟩
  ihave Hz := (Entails.of_eq (sep3 fun k => (semVal (cell c k) 0 : sProp 𝕄)).symm) $$ [Hg Hs Hl]
  · isplitl [Hg]; · iexact Hg
    isplitl [Hs] <;> iassumption
  imod (show iprop((bigSep Finset.univ fun k : Fin 3 => semVal (cell c k) 0) ∗ bigSep Finset.univ fun k : Fin 3 => roundState exEmb (rounds m) (cell c k) 0)
      ⊢ (|={Set.univ}=> bigSep Finset.univ fun k : Fin 3 => iprop(∃ κ : ℕ, cellInv exEmb (rounds m) κ (cell c k)) : sProp 𝕄) from by
        rw [← bigSep_sep']
        exact (bigSep_mono fun k _ => (Rounds.body_intro exEmb (rounds m) (cell c k)).trans inv_alloc).trans (bigSep_fupd _ _)) $$ [Hz Hst] with HI
  · isplitl [Hz] <;> iassumption
  imodintro
  isplitl [HI]; · iexact HI
  isplitl [Hat] <;> iassumption

/-- All the cells' invariants and marks, which every device may read. -/
def public₀ (K : Dev nD × Fin 3 → ℕ) : sProp 𝕄 :=
  iprop((bigSep Finset.univ fun x : Dev nD × Fin 3 => cellInv exEmb (rounds m) (K x) (cell x.1 x.2))
    ∗ bigSep Finset.univ fun x : Dev nD × Fin 3 => reached exEmb (cell x.1 x.2) 0)

instance public₀_persistent (K : Dev nD × Fin 3 → ℕ) : BI.Persistent (public₀ m K) := by unfold public₀; infer_instance

theorem public_inv (K : Dev nD × Fin 3 → ℕ) (c : Dev nD) (k : Fin 3) : public₀ m K ⊢ cellInv exEmb (rounds m) (K (c, k)) (cell c k) := by
  unfold public₀
  exact (sep_mono_left (bigSep_elim (Φ := fun x : Dev nD × Fin 3 => (cellInv exEmb (rounds m) (K x) (cell x.1 x.2) : sProp 𝕄))
    (Finset.mem_univ (c, k)))).trans (by iintro ⟨H, -⟩; iexact H)

theorem public_mark (K : Dev nD × Fin 3 → ℕ) (c : Dev nD) (k : Fin 3) : public₀ m K ⊢ reached exEmb (cell c k) 0 := by
  unfold public₀
  exact (sep_mono_right (bigSep_elim (Φ := fun x : Dev nD × Fin 3 => (reached exEmb (cell x.1 x.2) 0 : sProp 𝕄))
    (Finset.mem_univ (c, k)))).trans (by iintro ⟨-, H⟩; iexact H)

theorem deal_one (K : Dev nD × Fin 3 → ℕ) (c : Dev nD) : iprop(public₀ m K ∗ stands c ∗ dues c) ⊢ dealt m c := by
  unfold dealt known
  iintro ⟨#H, Hs, Hd⟩
  iexists K
  isplitr
  · isplitr
    · isplitr; · iapply (public_inv m K c 0); iexact H
      isplitr; · iapply (public_inv m K c 1); iexact H
      iapply (public_inv m K c 2); iexact H
    isplitr
    · isplitr; · iapply (public_inv m K (partner c) 0); iexact H
      iapply (public_inv m K (partner c) 2); iexact H
    isplitr; · iapply (public_mark m K (partner c) 0); iexact H
    isplitr; · iapply (public_mark m K (partner c) 2); iexact H
    isplitr; · iapply (public_mark m K c 1); iexact H
    iapply (public_mark m K c 2); iexact H
  isplitl [Hs] <;> iassumption

/-- The payments change hands: a device's gate and landing are paid by its partner. -/
theorem dues_swapped :
    (bigSep Finset.univ fun c : Dev nD => bigSep Finset.univ fun k : Fin 3 => (dutyTok exEmb (cell c k) 0 () : sProp 𝕄))
      ⊢ bigSep Finset.univ fun c : Dev nD => dues c := by
  unfold dues
  simp only [sep3, bigSep_sep']
  rw [bigSep_univ_equiv mates (fun c : Dev nD => (dutyTok exEmb (cell c 0) 0 () : sProp 𝕄)),
    bigSep_univ_equiv mates (fun c : Dev nD => (dutyTok exEmb (cell c 2) 0 () : sProp 𝕄))]
  exact BI.Entails.refl _

theorem deal_all : (bigSep Finset.univ (opened m) : sProp 𝕄) ⊢ bigSep Finset.univ (dealt m) := by
  have hI : bigSep Finset.univ (fun c : Dev nD => bigSep Finset.univ fun k : Fin 3 => iprop(∃ κ : ℕ, cellInv exEmb (rounds m) κ (cell c k)))
      = bigSep Finset.univ fun x : Dev nD × Fin 3 => (iprop(∃ κ : ℕ, cellInv exEmb (rounds m) κ (cell x.1 x.2)) : sProp 𝕄) :=
    (bigSep_univ_prod fun x : Dev nD × Fin 3 => iprop(∃ κ : ℕ, cellInv exEmb (rounds m) κ (cell x.1 x.2))).symm
  have hR : bigSep Finset.univ (fun c : Dev nD => bigSep Finset.univ fun k : Fin 3 => reached exEmb (cell c k) 0)
      = bigSep Finset.univ fun x : Dev nD × Fin 3 => (reached exEmb (cell x.1 x.2) 0 : sProp 𝕄) :=
    (bigSep_univ_prod fun x : Dev nD × Fin 3 => (reached exEmb (cell x.1 x.2) 0 : sProp 𝕄)).symm
  have hS : (bigSep Finset.univ fun c : Dev nD => bigSep Finset.univ fun k : Fin 3 => (atPos exEmb (cell c k) 0 ∅ 0 : sProp 𝕄))
      = bigSep Finset.univ fun c : Dev nD => stands c := bigSep_congr fun c _ => by rw [sep3]; rfl
  unfold opened
  simp only [bigSep_sep']
  rw [hI, hR, hS]
  iintro ⟨HI, ⟨Hat, #HR⟩, Hdu⟩
  ihave HK := (BI.bigSep_exists_pi Finset.univ (fun (x : Dev nD × Fin 3) (κ : ℕ) => (cellInv exEmb (rounds m) κ (cell x.1 x.2) : sProp 𝕄))) $$ HI
  icases HK with ⟨%K, #HI⟩
  ihave Hd := (dues_swapped (F := F)) $$ Hdu
  iapply ((sep_mono_left (BI.bigSep_of_persistent Finset.univ (public₀ m K))).trans (by
    rw [← bigSep_sep', ← bigSep_sep']; exact bigSep_mono fun c _ => deal_one m K c) :
    iprop(public₀ m K ∗ (bigSep Finset.univ fun c : Dev nD => stands c) ∗ bigSep Finset.univ fun c : Dev nD => dues c)
      ⊢ (bigSep Finset.univ (dealt m) : sProp 𝕄))
  isplitr
  · unfold public₀; isplitl; · iexact HI
    iexact HR
  isplitl [Hat] <;> iassumption

/-- All devices' cells are opened and all shares dealt in one step. -/
theorem deal : (bigSep Finset.univ fun c =>
      iprop(Pipeline.ownSems0 (Ix := Unit) (Name := ℕ) (U := UU) (Lvl := ℕ) (Val := Elt F) (τ := τ) ownSem c ∗ unscopedSems0 c ∗ share m c) : sProp 𝕄)
    ⊢ |={Set.univ}=> bigSep Finset.univ (dealt m) :=
  ((bigSep_mono fun c _ => open_cells m c).trans (bigSep_fupd _ _)).trans (BI.fupd_mono (deal_all m))

/-! ## What a device is promised -/

theorem cell_eq {a b : Dev nD} {k : Fin 3} : cell a k = cell b k ↔ a = b :=
  ⟨fun h => congrArg Prod.fst (cell_inj (a₁ := (a, k)) (a₂ := (b, k)) h), fun h => h ▸ rfl⟩

theorem apart {a b : Dev nD} {j k : Fin 3} (h : j ≠ k) : cell a j ≠ cell b k := fun e => h (semOf_injective (congrArg Prod.snd e))

/-- Only its partner owes a device anything: at the gate one unit, -/
theorem owed_gate (d c : Dev nD) : debt d (cell c 0) () = if d = partner c then 1 else 0 := by
  unfold debt
  rw [Pi.add_apply, Finsupp.add_apply, tallyAt_ne_cell (apart (by decide)), Finsupp.zero_apply, Nat.zero_add, tallyAt_apply]
  by_cases h : d = partner c
  · subst h; rw [partner_partner, if_pos ⟨rfl, rfl⟩, if_pos rfl]
  · rw [if_neg fun h' => h (by rw [cell_eq.mp h'.1, partner_partner]), if_neg h]

/-- and at the landing the bytes of a half. -/
theorem owed_landing (d c : Dev nD) : debt d (cell c 2) () = if d = partner c then halfCredit else 0 := by
  unfold debt
  rw [Pi.add_apply, Finsupp.add_apply, tallyAt_apply, tallyAt_ne_cell (apart (by decide)), Finsupp.zero_apply, Nat.add_zero]
  by_cases h : d = partner c
  · subst h; rw [partner_partner, if_pos ⟨rfl, rfl⟩, if_pos rfl]
  · rw [if_neg fun h' => h (by rw [cell_eq.mp h'.1, partner_partner]), if_neg h]

theorem promised (c : Dev nD) :
    (Pipeline.launchCred debt c : sProp 𝕄) ⊢ iprop(cred (tallyAt (cell c 0) () 1) ∗ cred (tallyAt (cell c 2) () halfCredit)) := by
  have hg : tallyOn (cell c 0) (launchCredit (Pipeline.owing debt) 0 (cell c 0)) = (tallyAt (cell c 0) () 1 : CellTallies nD τ sig Unit) := by
    unfold tallyAt; refine congrArg _ (Finsupp.ext fun u => ?_); cases u
    rw [Pipeline.launchCredit_owing, Finsupp.single_eq_same, Finset.sum_congr rfl fun d _ => owed_gate d c,
      Finset.sum_ite_eq' Finset.univ (partner c) fun _ => 1, if_pos (Finset.mem_univ _)]
  have hl : tallyOn (cell c 2) (launchCredit (Pipeline.owing debt) 0 (cell c 2)) = (tallyAt (cell c 2) () halfCredit : CellTallies nD τ sig Unit) := by
    unfold tallyAt; refine congrArg _ (Finsupp.ext fun u => ?_); cases u
    rw [Pipeline.launchCredit_owing, Finsupp.single_eq_same, Finset.sum_congr rfl fun d _ => owed_landing d c,
      Finset.sum_ite_eq' Finset.univ (partner c) fun _ => halfCredit, if_pos (Finset.mem_univ _)]
  unfold Pipeline.launchCred
  rw [bigSep_univ_at _ (semOf 0), hg]
  refine sep_mono_right ?_
  rw [← hl]
  exact bigSep_elim (Finset.mem_erase.mpr ⟨fun h => absurd (semOf_injective h : (2 : Fin 3) = 0) (by decide), Finset.mem_univ _⟩)

/-! ## Into the first point and out of the last -/

theorem start (c : Dev nD) :
    iprop(Pipeline.unscopedRestP Pipeline.Prefetch.none cfg0.spec c (fun b => m ((c : Thread nD τ).loc b)) ∗ levAts tags order
        ∗ Pipeline.launchCred debt c ∗ prngReg c (ρ c) ∗ dealt m c)
      ⊢ |={Set.univ}=> iprop(ready m c ∗ emp) := by
  iintro ⟨-, Hl, Hc, -, Hd⟩
  ihave Hc := (promised (F := F) c) $$ Hc
  icases Hc with ⟨Hg, Hb⟩
  imodintro
  unfold ready
  isplitl
  · isplitl [Hd]; · iexact Hd
    isplitl [Hg]; · iexact Hg
    isplitl [Hb] <;> iassumption
  · iempintro

theorem enter (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c 0 from rfl, scopedRest0_eq]
  unfold before cands
  iintro ⟨Hr, -, ⟨%f, Hf⟩, ⟨%g, Hg⟩⟩
  isplitl [Hr]; · iexact Hr
  isplitl [Hf]
  · iexists f
    isplitr; · ipureintro; exact fun j hj => absurd hj (Nat.not_lt_zero _)
    iexact Hf
  iapply (halves_split c g)
  iexact Hg

theorem not_early : ¬ (Fin.last cfg0.N).val < 8 := by
  have h : (Fin.last cfg0.N).val = 8 := N_0
  omega

theorem state_end (c : Dev nD) : (dats m 0 c).Φ (Fin.last cfg0.N) = done c :=
  if_neg (t := before m c (Fin.last cfg0.N).val) not_early
theorem owed_end (c : Dev nD) : (dats m 0 c).owed (Fin.last cfg0.N) = 0 := if_neg (t := debt c) not_early

theorem leave (c : Dev nD) :
    (dats m 0 c).Φ (Fin.last cfg0.N) ⊢ iprop(unscopedSems0 c ∗ Pipeline.ownSems0 ownSem c ∗ Pipeline.scopedRest cfg0.spec c) := by
  rw [state_end, scopedRest0_eq, ownSems_eq, restSems_eq]
  unfold done
  iintro ⟨Hf, Hh, Hg, Hs, Hl⟩
  isplitl [Hg]; · iexact Hg
  isplitl [Hs Hl]
  · isplitl [Hs] <;> iassumption
  isplitl [Hf] <;> iassumption

theorem staging_waits (c : Dev nD) : (levAts tags order : sProp 𝕄) ⊢ Pipeline.cellsWaits cfgs (dats m) () 0 c :=
  Pipeline.cellsWaits_intro cfgs (dats m) () 0 c fun w s t =>
    wait_before c _ (by fin_cases w <;> fin_cases s <;> rfl) _ (by
      show (if t.val < 8 then debt c else 0) = _ ∨ (if t.val < 8 then debt c else 0) = _
      split_ifs
      · exact .inl rfl
      · exact .inr rfl)

/-! ## The run -/

/-- The memory at launch: any contents, every semaphore at zero. -/
def atLaunch : MemSt nD τ sig (Elt F) := ⟨m, fun _ => 0, ρ⟩

/-- What array `w` of device `c` holds after the run. -/
def final (c : Dev nD) (w : Fin cfg0.W) : Buf (Elt F) ((cfg0.win w).arr.view.loc (c : Thread nD τ)) := (dats m 0 c).arrAt w cfg0.N

set_option maxRecDepth 8000 in
/-- From any memory with its semaphores at zero, every run of the program on the eight devices ends, with each device's
    arrays at `final` and every semaphore at zero. -/
theorem run : θ_run defs (onTc (τ := τ) (main (F := F))) (atLaunch m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) pipeEmb defs₀ Variants.none m ρ main
    (hmain := fun _ => rfl)
    (hbody := fun c => (keeps m c).loose) (hne := block_pos0) (harr := arr_whole0) (hstage := stage_whole0)
    (hshare := fun c w => by unfold Dat.share; split <;> rfl)
    (hdistinct := winFacts0.arr_inj)
    (O₀ := debt) (howed₀ := fun _ => rfl)
    (howedN := owed_end m)
    (L := tags) (lv := order) (hL := tags_none) (hwaits := staging_waits m)
    (G := share m) (G' := dealt m) (u₀ := ghost₀)
    (hu₀ := by
      unfold ghost₀
      iintro H
      ihave H := (ownU_pair _ _) $$ H
      icases H with ⟨Hp, Hx⟩
      imod (deal_shares m) $$ Hx with Hs
      imodintro
      isplitl [Hp] <;> iassumption)
    (hglob := deal m)
    (hA := fun _ _ => rfl) (hpf := fun _ k => k.elim0)
    (X := ready m) (Y := fun c => unscopedSems0 c) (Z := fun _ => iprop(emp))
    (hX := start m ρ) (hin := enter m) (hout := leave m)
    (QY := fun c s => ∀ sm : SemLoc sig, sm.isScoped .tc = false → s.sem ((c.tc : Thread nD τ), sm) = 0)
    (hY := fun c s => by
      iintro ⟨H, -, HS⟩
      iapply (Pipeline.unscopedSems0_read (X := unscopedSems0 c) (c := c) fupd_intro s)
      isplitl [H] <;> iassumption)
    (hQ := fun _ h hs => ⟨fun c w => (h c).1 w, sem_eq_zero hs fun c => (h c).2.2⟩)

/-- The argument ends as it began. -/
theorem final_arg (c : Dev nD) : final m c (0 : Fin 2) = m ((c : Thread nD τ).loc main_arg0) :=
  (dats (F := F) m 0 c).arrAt_in (0 : Fin 2) rfl _

end Cert.TopK

end
-- ==== Proof.Frames.lean ====
/-
# What the runs leave

The kernel's program leaves its argument as it was and every semaphore at zero, at any float values; its result is
`outAt`.  The reference declares no semaphore and does not touch its argument.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.ValueKit

@[expose] public section

noncomputable section

namespace Cert.TopK

open Cert.KernelIdeal Cert.KernelIdeal.Gen
open Idealize.ShloMosaic
open Idealize.ShloMosaic.TcCoe
open Idealize.SL.Sem

variable {F : FTy → Type} [FloatOps F]

/-- The last point writes the whole result. -/
theorem final_out (m : (ℓ : Loc nD τ sig) → Buf (Elt F) ℓ) (c : Dev nD) : final m c (1 : Fin 2) = outAt m c := by
  refine (dats m 0 c).arrAt_eq_of_after_last (1 : Fin 2) t0_7 (by decide +kernel) _ fun j => ?_
  blk_simp
  rfl

/-- Every run of the kernel ends with each device's result at `outAt`, its argument unchanged, every semaphore at zero. -/
theorem ends (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v1) = outAt m c
        ∧ r.2.mem ((c : Thread nD τ).loc main_arg0) = m ((c : Thread nD τ).loc main_arg0))
      ∧ r.2.sem = fun _ => 0 :=
  (θ_run defs _ _).mono (fun _ h => ⟨fun c => ⟨(h.1 c (1 : Fin 2)).trans (final_out m c), (h.1 c (0 : Fin 2)).trans (final_arg m c)⟩, h.2⟩)
    (run m ρ)

/-- The kernel and its idealization have one body table. -/
theorem same_bodies : Cert.Kernel.defs₀ (F := Bits) = Cert.KernelIdeal.defs₀ :=
  congrArg Defs.onTc (funext fun ℓ => funext fun _ => by
    match ℓ with
    | ⟨0, _⟩ => rfl)

theorem same_defs : Cert.Kernel.defs (F := Bits) = Cert.KernelIdeal.defs :=
  congrArg (Pipeline.defs Cert.KernelIdeal.pcfgs) same_bodies

/-- The kernel as compiled runs, keeps its argument and leaves every semaphore at zero. -/
theorem frame_kernel : Cert.quiescent_Kernel := fun m ρ _ => by
  rw [same_defs]
  have h : θ_run (Cert.KernelIdeal.defs (F := Bits)) (onTc (τ := Cert.KernelIdeal.τ) (Cert.KernelIdeal.main (F := Bits))) ⟨m, fun _ => 0, ρ⟩
      (fun r => (∀ c : Dev nD, r.2.mem ((c : Thread nD τ).loc main_arg0) = m ((c : Thread nD τ).loc main_arg0)) ∧ r.2.sem = fun _ => 0) :=
    (θ_run _ _ _).mono (fun _ h => ⟨fun c => (h.1 c).2, h.2⟩) (ends (F := Bits) m ρ)
  exact h

/-- So does the kernel over the extended reals. -/
theorem frame_ideal : Cert.quiescent_KernelIdeal := fun m ρ _ =>
  (θ_run Cert.KernelIdeal.defs _ _).mono (fun _ h => ⟨fun c => (h.1 c).2, h.2⟩) (ends (F := Ideal) m ρ)

/-- And so does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Ranks.lean ====
/-
# The greatest values of a finite set, one after the other

`nth S k` is the greatest element of `S` below `nth S 0`, …, `nth S (k − 1)`, and the least value of the order when there
is none.  Two facts carry the whole comparison: the first `K` of a union are found among the first `K` of its members, and
in a list in falling order the entry at `k` is `nth k` as long as the entries before it strictly fall.
-/
module

public import Mathlib.Data.Finset.Lattice.Fold
public import Mathlib.Data.Finset.Image
public import Mathlib.Order.Fin.Basic

@[expose] public section

noncomputable section

namespace Cert.TopK

open scoped Classical in
/-- The elements of `S` below `b`. -/
def under {α : Type} [LinearOrder α] (S : Finset α) (b : α) : Finset α := S.filter (· < b)

variable {α : Type} [LinearOrder α] [OrderBot α]

theorem mem_under {S : Finset α} {b s : α} : s ∈ under S b ↔ s ∈ S ∧ s < b := by unfold under; rw [Finset.mem_filter]

/-- The `k`-th greatest value of `S`, counting equal elements once and from zero. -/
def nth (S : Finset α) : ℕ → α
  | 0 => S.sup id
  | k + 1 => (under S (nth S k)).sup id

theorem le_first {S : Finset α} {s : α} (hs : s ∈ S) : s ≤ nth S 0 := Finset.le_sup (f := id) hs

theorem le_next {S : Finset α} {s : α} {k : ℕ} (hs : s ∈ S) (hk : s < nth S k) : s ≤ nth S (k + 1) :=
  Finset.le_sup (f := id) (mem_under.mpr ⟨hs, hk⟩)

/-- A supremum over a finite set is one of its elements or the least value. -/
theorem sup_mem (S : Finset α) : S.sup id = ⊥ ∨ S.sup id ∈ S := by
  rcases S.eq_empty_or_nonempty with h | h
  · left; rw [h]; rfl
  · right
    obtain ⟨s, hs, he⟩ := Finset.exists_mem_eq_sup S h id
    rw [he]; exact hs

theorem nth_mem (S : Finset α) (k : ℕ) : nth S k = ⊥ ∨ nth S k ∈ S := by
  cases k with
  | zero => exact sup_mem S
  | succ k => exact (sup_mem _).imp_right fun h => (mem_under.mp h).1

theorem next_le (S : Finset α) (k : ℕ) : nth S (k + 1) ≤ nth S k := Finset.sup_le fun _ hs => (mem_under.mp hs).2.le

theorem next_lt {S : Finset α} {k : ℕ} (h : ⊥ < nth S k) : nth S (k + 1) < nth S k :=
  (Finset.sup_lt_iff h).mpr fun _ hs => (mem_under.mp hs).2

theorem nth_anti (S : Finset α) : Antitone (nth S) := antitone_nat_of_succ_le (next_le S)

/-- A larger set has larger values. -/
theorem nth_mono {S T : Finset α} (h : S ⊆ T) (k : ℕ) : nth S k ≤ nth T k := by
  induction k with
  | zero => exact Finset.sup_mono h
  | succ k ih =>
    refine Finset.sup_le fun s hs => ?_
    exact le_next (h (mem_under.mp hs).1) ((mem_under.mp hs).2.trans_le ih)

/-- An element is among the first `k + 1` values or below the last of them. -/
theorem found_or_below {S : Finset α} {s : α} (hs : s ∈ S) (k : ℕ) : (∃ j ≤ k, s = nth S j) ∨ s < nth S k := by
  induction k with
  | zero => exact (le_first hs).eq_or_lt.imp_left fun h => ⟨0, le_refl _, h⟩
  | succ k ih =>
    rcases ih with ⟨j, hj, h⟩ | h
    · exact .inl ⟨j, hj.trans (Nat.le_succ k), h⟩
    · exact (le_next hs h).eq_or_lt.imp_left fun h => ⟨k + 1, le_refl _, h⟩

open scoped Classical in
/-- The first `K` values of `S`. -/
def first (K : ℕ) (S : Finset α) : Finset α := (Finset.range K).image (nth S)

theorem mem_first {K : ℕ} {S : Finset α} {s : α} : s ∈ first K S ↔ ∃ k < K, nth S k = s := by
  unfold first; simp only [Finset.mem_image, Finset.mem_range]

section Union

variable {ι : Type} [Fintype ι] {K : ℕ} (S : ι → Finset α) (U T : Finset α)
  (hU : ∀ s, s ∈ U ↔ ∃ i, s ∈ S i) (hT : ∀ s, s ∈ T ↔ ∃ i, s ∈ first K (S i))

include hU hT in
/-- The first `K` values of a union are those of the union of its members' first `K`. -/
theorem nth_union {k : ℕ} (hk : k < K) : nth T k = nth U k := by
  have low {t : α} (ht : t ∈ T) : t = ⊥ ∨ t ∈ U := by
    obtain ⟨i, hi⟩ := (hT t).mp ht
    obtain ⟨j, -, rfl⟩ := mem_first.mp hi
    exact (nth_mem (S i) j).imp_right fun h => (hU _).mpr ⟨i, h⟩
  induction k with
  | zero =>
    refine le_antisymm (Finset.sup_le fun t ht => ?_) (Finset.sup_le fun s hs => ?_)
    · rcases low ht with h | h
      · rw [h]; exact bot_le
      · exact le_first h
    · obtain ⟨i, hi⟩ := (hU s).mp hs
      exact (le_first hi).trans (le_first ((hT _).mpr ⟨i, mem_first.mpr ⟨0, hk, rfl⟩⟩))
  | succ k ih =>
    have ih := ih (Nat.lt_of_succ_lt hk)
    refine le_antisymm (Finset.sup_le fun t ht => ?_) (Finset.sup_le fun s hs => ?_)
    · obtain ⟨ht, hlt⟩ := mem_under.mp ht
      rcases low ht with h | h
      · rw [h]; exact bot_le
      · exact le_next h (ih ▸ hlt)
    · obtain ⟨hs, hlt⟩ := mem_under.mp hs
      obtain ⟨i, hi⟩ := (hU s).mp hs
      have sub : S i ⊆ U := fun x hx => (hU x).mpr ⟨i, hx⟩
      have mem (j : ℕ) (hj : j < K) : nth (S i) j ∈ T := (hT _).mpr ⟨i, mem_first.mpr ⟨j, hj, rfl⟩⟩
      rcases found_or_below hi (k + 1) with ⟨j, hj, h⟩ | h
      · exact le_next (h ▸ mem j (by omega)) (ih ▸ hlt)
      · exact h.le.trans (le_next (mem (k + 1) hk)
          (ih ▸ (nth_mono sub (k + 1)).trans_lt (next_lt (bot_le.trans_lt hlt))))

end Union

/-- In a list in falling order, the entry at `k` is the `k`-th value if no two of the entries up to it are equal. -/
theorem nth_falling {n : ℕ} (s : Fin n → α) (hs : Antitone s) (S : Finset α) (hS : ∀ x, x ∈ S ↔ ∃ i, s i = x) :
    ∀ (k : ℕ) (hk : k < n), (∀ h (hh : h + 1 ≤ k), s ⟨h, by omega⟩ ≠ s ⟨h + 1, by omega⟩) → s ⟨k, hk⟩ = nth S k := by
  intro k
  induction k with
  | zero =>
    intro hk _
    refine le_antisymm (le_first ((hS _).mpr ⟨_, rfl⟩)) (Finset.sup_le fun x hx => ?_)
    obtain ⟨i, rfl⟩ := (hS x).mp hx
    exact hs (Fin.mk_le_of_le_val (Nat.zero_le _))
  | succ k ih =>
    intro hk hne
    have ih := ih (by omega) fun h hh => hne h (by omega)
    have step : s ⟨k + 1, hk⟩ < s ⟨k, by omega⟩ :=
      lt_of_le_of_ne (hs (Fin.mk_le_mk.mpr (Nat.le_succ k))) (hne k (le_refl _)).symm
    refine le_antisymm (le_next ((hS _).mpr ⟨_, rfl⟩) (ih ▸ step)) (Finset.sup_le fun x hx => ?_)
    obtain ⟨hx, hlt⟩ := mem_under.mp hx
    obtain ⟨i, rfl⟩ := (hS x).mp hx
    rw [← ih] at hlt
    refine hs ?_
    by_contra hi
    exact absurd hlt (not_lt.mpr (hs (Fin.le_def.mpr (by have := Fin.lt_def.mp (not_le.mp hi); simp only at this ⊢; omega))))

end Cert.TopK

end
-- ==== Proof.Values.lean ====
/-
# What the rounds compute over the extended reals

Over the extended reals a row's maximum is a supremum, and −∞ is the least value. So the `k`-th round finds the `k`-th
greatest distinct value of the row, `nth`, and the 32 rounds find the first 32. Joined side by side, candidate matrices
have as rows the unions of their rows, so `nth_union` says that candidates of candidates are candidates of everything.
-/
module

public import proofs.«01_k».proof.Proof.Strike
public import proofs.«01_k».proof.Proof.Ranks
public import Idealize.ShloMosaic.Lib.Pipeline.Value
public import Idealize.ShloMosaic.Lib.ValueIdx
public import Idealize.ShloMosaic.PureOps.Ideal.Laws

@[expose] public section

noncomputable section

namespace Cert.TopK

open Cert.KernelIdeal Cert.KernelIdeal.Gen
open Idealize.ShloMosaic Idealize.ShloMosaic.ValueIdx

/-- The word of −∞ is the least extended real. -/
theorem word_bot : (FloatOps.ofBits .f32 0xFF800000#32 : Ideal .f32) = (⊥ : EReal) := by
  show Ideal.ieee 8 23 (0xFF800000#32 : BitVec 32) = ⊥
  unfold Ideal.ieee
  simp

variable {n : ℕ} (h : Fits n)

open scoped Classical in
/-- The values of row `i`. -/
def row (x : FVec Ideal (Wide n) .f32) (i : Fin 1024) : Finset EReal := Finset.univ.image fun j : Fin n => x (ix2 i j)

theorem mem_row {x : FVec Ideal (Wide n) .f32} {i : Fin 1024} {s : EReal} : s ∈ row x i ↔ ∃ j, x (ix2 i j) = s := by
  unfold row; simp

theorem lift_row (i : Fin 1024) (j : Fin n) : h.red.lift (ix1 i) j = ix2 i j := by
  funext c
  apply Fin.ext
  match c with
  | ⟨0, _⟩ => rfl
  | ⟨1, _⟩ => rfl

/-- A row's maximum is the supremum of the row. -/
theorem rowMax_apply (x : FVec Ideal (Wide n) .f32) (i : Fin 1024) :
    rowMax h x (ix1 i) = (Finset.univ : Finset (Fin n)).sup (fun j => (x (ix2 i j) : EReal)) := by
  refine (Ideal.multiReduction_maximumf_single (s := Wide n) (t := S1024) (a := (1 : Fin 2)) x _ h.red (.inl rfl) rfl (ix1 i)).trans ?_
  show (Finset.univ : Finset (Fin n)).fold max (FloatOps.ofBits .f32 0xFF800000#32 : Ideal .f32) (x ∘ h.red.lift (ix1 i)) = _
  rw [word_bot]
  have e : (x ∘ h.red.lift (ix1 i)) = fun j : Fin n => x (ix2 i j) := funext fun j => congrArg x (lift_row h i j)
  rw [e]
  rfl

theorem peak_apply (x : FVec Ideal (Wide n) .f32) (i : Fin 1024) : peak h x (ix2 i (0 : Fin 1)) = rowMax h x (ix1 i) := by
  unfold peak
  refine shapeCast_apply _ _ _ _ ?_
  rw [Shape.rowMajor_val_two, Shape.rowMajor_val_one]
  show i.val = i.val * 1 + 0
  omega

/-- One round puts −∞ wherever the row's maximum stands. -/
theorem strike_apply (x : FVec Ideal (Wide n) .f32) (i : Fin 1024) (j : Fin n) :
    strike h x (ix2 i j) = if (x (ix2 i j) : EReal) = rowMax h x (ix1 i) then (⊥ : EReal) else x (ix2 i j) := by
  have spread : broadcastTo (Wide n) (peak h x) h.spread (ix2 i j) = rowMax h x (ix1 i) := by
    rw [← peak_apply h x i]
    refine broadcastTo_apply _ _ _ _ fun a => ?_
    match a with
    | ⟨0, _⟩ => rfl
    | ⟨1, _⟩ => rfl
  unfold strike hits low
  rw [select_apply, cmpf_apply, spread]
  show Scalar.select (Ideal.cmp .oeq (x (ix2 i j)) (rowMax h x (ix1 i))) (FloatOps.ofBits .f32 0xFF800000#32 : Ideal .f32) (x (ix2 i j)) = _
  rw [word_bot]
  by_cases e : (x (ix2 i j) : EReal) = rowMax h x (ix1 i)
  · rw [if_pos e]; simp [Ideal.cmp, e, Scalar.select]
  · rw [if_neg e]; simp [Ideal.cmp, e, Scalar.select]

/-- Round `k` finds the row's `k`-th greatest distinct value, and what it leaves are the entries below that. -/
theorem round (x : FVec Ideal (Wide n) .f32) (i : Fin 1024) : ∀ k,
    rowMax h (struck h x k) (ix1 i) = nth (row x i) k
      ∧ ∀ j, struck h x (k + 1) (ix2 i j) = if (x (ix2 i j) : EReal) < nth (row x i) k then (x (ix2 i j) : EReal) else ⊥ := by
  intro k
  induction k with
  | zero =>
    have e : rowMax h (struck h x 0) (ix1 i) = nth (row x i) 0 := by
      rw [rowMax_apply]
      show _ = (row x i).sup id
      unfold row
      rw [Finset.sup_image]
      rfl
    refine ⟨e, fun j => ?_⟩
    show strike h (struck h x 0) (ix2 i j) = _
    rw [strike_apply, e]
    have le : (x (ix2 i j) : EReal) ≤ nth (row x i) 0 := le_first (mem_row.mpr ⟨j, rfl⟩)
    show (if (x (ix2 i j) : EReal) = nth (row x i) 0 then (⊥ : EReal) else x (ix2 i j)) = _
    by_cases q : (x (ix2 i j) : EReal) = nth (row x i) 0
    · rw [if_pos q, if_neg (not_lt.mpr q.ge)]
    · rw [if_neg q, if_pos (lt_of_le_of_ne le q)]
  | succ k ih =>
    obtain ⟨-, ih⟩ := ih
    have e : rowMax h (struck h x (k + 1)) (ix1 i) = nth (row x i) (k + 1) := by
      rw [rowMax_apply]
      simp only [ih]
      refine le_antisymm (Finset.sup_le fun j _ => ?_) (Finset.sup_le fun s hs => ?_)
      · split
        · next q => exact le_next (mem_row.mpr ⟨j, rfl⟩) q
        · exact bot_le
      · obtain ⟨hs, q⟩ := mem_under.mp hs
        obtain ⟨j, rfl⟩ := mem_row.mp hs
        exact (if_pos q).ge.trans (Finset.le_sup (f := fun j => if (x (ix2 i j) : EReal) < nth (row x i) k then (x (ix2 i j) : EReal) else ⊥) (Finset.mem_univ j))
    refine ⟨e, fun j => ?_⟩
    show strike h (struck h x (k + 1)) (ix2 i j) = _
    rw [strike_apply, e, ih j]
    by_cases q : (x (ix2 i j) : EReal) < nth (row x i) k
    · rw [if_pos q]
      have le : (x (ix2 i j) : EReal) ≤ nth (row x i) (k + 1) := le_next (mem_row.mpr ⟨j, rfl⟩) q
      by_cases q' : (x (ix2 i j) : EReal) = nth (row x i) (k + 1)
      · rw [if_pos q', if_neg (not_lt.mpr q'.ge)]
      · rw [if_neg q', if_pos (lt_of_le_of_ne le q')]
    · rw [if_neg q, if_neg (not_lt.mpr ((next_le _ k).trans (not_lt.mp q)))]
      exact ite_self _

/-- The 32 rounds find the first 32 values of every row. -/
theorem best_apply (x : FVec Ideal (Wide n) .f32) (i : Fin 1024) (k : Fin 32) : best h x (ix2 i k) = nth (row x i) k.val := by
  unfold best
  rw [concatenate_ofFn_unit_apply (t := S1024x32) (s₁ := S1024x1) (1 : Fin 2) (fun k : Fin 32 => col h x k.val) _ rfl rfl (ix2 i k) k rfl (ix2 i (0 : Fin 1))
    (fun b hb => by
      match b, hb with
      | ⟨0, _⟩, _ => rfl
      | ⟨1, _⟩, hb => exact absurd rfl hb)]
  unfold col
  rw [peak_apply, (round h x i k.val).1]

theorem mem_row_best {x : FVec Ideal (Wide n) .f32} {i : Fin 1024} {s : EReal} :
    s ∈ row (n := 32) (best h x) i ↔ s ∈ first 32 (row x i) := by
  rw [mem_row, mem_first]
  constructor
  · rintro ⟨k, rfl⟩; exact ⟨k.val, k.isLt, (best_apply h x i k).symm⟩
  · rintro ⟨k, hk, rfl⟩; exact ⟨⟨k, hk⟩, best_apply h x i ⟨k, hk⟩⟩

/-- A row of eight matrices side by side. -/
theorem mem_row_join8 {f : Fin 8 → FVec Ideal S1024x32 .f32} {i : Fin 1024} {s : EReal} :
    s ∈ row (n := 256) (join8 f) i ↔ ∃ j, s ∈ row (n := 32) (f j) i := by
  have at_ (j : Fin 8) (k : Fin 32) (q : Fin 256) (hq : q.val = 32 * j.val + k.val) : join8 f (ix2 i q) = f j (ix2 i k) := by
    unfold join8
    refine concatenate_ofFn_apply (t := S1024x256) (s₁ := S1024x32) (1 : Fin 2) f _ rfl 32 rfl (ix2 i q) j ?_ (ix2 i k) ?_ ?_
    · show q.val / 32 = j.val
      have := k.isLt; omega
    · show k.val = q.val % 32
      have := k.isLt; omega
    · intro b hb
      match b, hb with
      | ⟨0, _⟩, _ => rfl
      | ⟨1, _⟩, hb => exact absurd rfl hb
  simp only [mem_row]
  constructor
  · rintro ⟨q, rfl⟩
    have := q.isLt
    exact ⟨⟨q.val / 32, by omega⟩, ⟨q.val % 32, by omega⟩, (at_ _ _ q (by simp only; omega)).symm⟩
  · rintro ⟨j, k, rfl⟩
    have := j.isLt; have := k.isLt
    exact ⟨⟨32 * j.val + k.val, by omega⟩, at_ j k _ rfl⟩

/-- A row of two matrices side by side. -/
theorem mem_row_join2 {a b : FVec Ideal S1024x32 .f32} {i : Fin 1024} {s : EReal} :
    s ∈ row (n := 64) (join2 a b) i ↔ s ∈ row (n := 32) a i ∨ s ∈ row (n := 32) b i := by
  have left (k : Fin 32) (q : Fin 64) (hq : q.val = k.val) : join2 a b (ix2 i q) = a (ix2 i k) := by
    unfold join2
    refine concatenate_pair_apply_left (t := S1024x64) (s₁ := S1024x32) (s₂ := S1024x32) (1 : Fin 2) a b _ (ix2 i q) rfl (ix2 i k) fun b => ?_
    match b with
    | ⟨0, _⟩ => rfl
    | ⟨1, _⟩ => exact hq.symm
  have right (k : Fin 32) (q : Fin 64) (hq : q.val = k.val + 32) : join2 a b (ix2 i q) = b (ix2 i k) := by
    unfold join2
    refine concatenate_pair_apply_right (t := S1024x64) (s₁ := S1024x32) (s₂ := S1024x32) (1 : Fin 2) a b _ (ix2 i q) rfl rfl (ix2 i k) (fun b hb => ?_) hq.symm
    match b, hb with
    | ⟨0, _⟩, _ => rfl
    | ⟨1, _⟩, hb => exact absurd rfl hb
  simp only [mem_row]
  constructor
  · rintro ⟨q, rfl⟩
    have := q.isLt
    by_cases hq : q.val < 32
    · exact .inl ⟨⟨q.val, hq⟩, (left ⟨q.val, hq⟩ q rfl).symm⟩
    · exact .inr ⟨⟨q.val - 32, by omega⟩, (right ⟨q.val - 32, by omega⟩ q (by simp only; omega)).symm⟩
  · rintro (⟨k, rfl⟩ | ⟨k, rfl⟩)
    · exact ⟨⟨k.val, by omega⟩, left k _ rfl⟩
    · exact ⟨⟨k.val + 32, by omega⟩, right k _ rfl⟩

end Cert.TopK

end
-- ==== Proof.Whole.lean ====
/-
# The kernel's result as a function of the whole array

Device `c` holds columns 8192·(c mod 2) to 8192·(c mod 2) + 8191 of the whole array, in eight chunks of 1024 columns. Its
partner holds the other half. So the result at row `i` and column `k` is the `k`-th greatest distinct value of row `i` of
the whole array.
-/
module

public import proofs.«01_k».proof.Proof.Exchange
public import proofs.«01_k».proof.Proof.Values

@[expose] public section

noncomputable section

namespace Cert.TopK

open Cert.KernelIdeal Cert.KernelIdeal.Gen
open Idealize.ShloMosaic Idealize.ShloMosaic.TcCoe Idealize.ShloMosaic.ValueIdx

variable (m : (ℓ : Loc nD τ sig) → Buf (Elt Ideal) ℓ)

/-- What device `c` holds of the array. -/
def held (c : Dev nD) : FVec Ideal (Wide 8192) .f32 := m ((c : Thread nD τ).loc main_arg0)

/-- Chunk `j` starts at column 1024·j. -/
theorem chunk_apply (c : Dev nD) (j : Fin 8) (i : Fin 1024) (q : Fin 1024) (p : Fin 8192) (hp : p.val = 1024 * j.val + q.val) :
    chunk m c j (ix2 i q) = held m c (ix2 i p) := by
  show held m c ((win0_0.rect (pt j)).emb (ix2 i q)) = _
  refine congrArg (held m c) (funext fun a => Fin.ext ?_)
  rw [Pipeline.Window.rect_emb_val win0_0 (pt j) (ix2 i q) a rfl]
  match a with
  | ⟨0, _⟩ => show 0 * 1024 + i.val = i.val; omega
  | ⟨1, _⟩ =>
    have e : ∀ j : Fin 8, win0_0.index (pt j) (1 : Fin 2) = j.val := by decide
    show win0_0.index (pt j) (1 : Fin 2) * 1024 + q.val = p.val
    rw [e j]; omega

/-- A device's row is the union of its chunks' rows. -/
theorem mem_held {c : Dev nD} {i : Fin 1024} {s : EReal} : s ∈ row (held m c) i ↔ ∃ j, s ∈ row (n := 1024) (chunk m c j) i := by
  simp only [mem_row]
  constructor
  · rintro ⟨p, rfl⟩
    have := p.isLt
    exact ⟨⟨p.val / 1024, by omega⟩, ⟨p.val % 1024, by omega⟩, chunk_apply m c ⟨p.val / 1024, by omega⟩ i ⟨p.val % 1024, by omega⟩ p (by simp only; omega)⟩
  · rintro ⟨j, q, rfl⟩
    have := j.isLt; have := q.isLt
    exact ⟨⟨1024 * j.val + q.val, by omega⟩, (chunk_apply m c j i q _ rfl).symm⟩

/-- A device's candidates are the first 32 values of its rows. -/
theorem mem_localTop {c : Dev nD} {i : Fin 1024} {s : EReal} : s ∈ row (n := 32) (localTop m c) i ↔ s ∈ first 32 (row (held m c) i) := by
  have e (k : ℕ) (hk : k < 32) : nth (row (n := 256) (join8 fun j => best fits1024 (chunk m c j)) i) k = nth (row (held m c) i) k :=
    nth_union (fun j : Fin 8 => row (n := 1024) (chunk m c j) i) _ _ (fun _ => mem_held m)
      (fun _ => mem_row_join8.trans (exists_congr fun _ => mem_row_best fits1024)) hk
  unfold localTop
  rw [mem_row_best, mem_first, mem_first]
  exact exists_congr fun k => and_congr_right fun hk => by rw [e k hk]

section Whole

variable (w : FVec Ideal (Wide 16384) .f32)
  (hm : ∀ (c : Dev nD) (i : Fin 1024) (p : Fin 8192) (q : Fin 16384), q.val = 8192 * (c.val % 2) + p.val → held m c (ix2 i p) = w (ix2 i q))

include hm in
/-- A row of the whole array is the union of two partners' rows. -/
theorem mem_whole {c : Dev nD} {i : Fin 1024} {s : EReal} :
    s ∈ row w i ↔ ∃ b : Bool, s ∈ row (held m (bif b then partner c else c)) i := by
  have hc := partner_val c
  have : c.val < 8 := c.isLt
  simp only [mem_row]
  constructor
  · rintro ⟨q, rfl⟩
    have := q.isLt
    by_cases own : q.val / 8192 = c.val % 2
    · exact ⟨false, ⟨q.val % 8192, by omega⟩, hm c i ⟨q.val % 8192, by omega⟩ q (by simp only; omega)⟩
    · exact ⟨true, ⟨q.val % 8192, by omega⟩, hm (partner c) i ⟨q.val % 8192, by omega⟩ q (by simp only; omega)⟩
  · rintro ⟨b, p, rfl⟩
    have := p.isLt
    exact ⟨⟨8192 * ((bif b then partner c else c).val % 2) + p.val, by omega⟩, (hm _ i p _ rfl).symm⟩

include hm in
/-- The kernel's result at row `i`, column `k` is the `k`-th greatest distinct value of row `i`. -/
theorem outAt_apply (c : Dev nD) (i : Fin 1024) (k : Fin 32) : outAt m c (ix2 i k) = nth (row w i) k.val := by
  unfold outAt
  rw [best_apply]
  refine nth_union (fun b : Bool => row (held m (bif b then partner c else c)) i) _ _ (fun _ => mem_whole m w hm) (fun s => ?_) k.isLt
  rw [mem_row_join2, mem_localTop, mem_localTop]
  constructor
  · rintro (h | h)
    · exact ⟨false, h⟩
    · exact ⟨true, h⟩
  · rintro ⟨b, h⟩
    cases b
    · exact .inl h
    · exact .inr h

end Whole

end Cert.TopK

end
-- ==== Proof.Sorted.lean ====
/-
# The reference's result and the mask, entry by entry

The reference sorts the positions of every row by the negated entries and picks the entries at the first 32 positions. So
its row is the array's row in falling order, cut at 32. The mask at row `i`, column `k` says that no two neighbours among
the first `k + 1` entries of that list are equal.
-/
module

public import proofs.«01_k».proof.Proof.Values
public import proofs.«01_k».proof.Proof.Gen.On_untied
public import Idealize.ShloMosaic.Lib.SortFacts
public import Idealize.ShloMosaic.Lib.ReduceAll
public import Idealize.ShloMosaic.Lib.StableHlo.Predicate

@[expose] public section

noncomputable section

namespace Cert.TopK

open Cert.On_untied Cert.On_untied.Gen
open Idealize.ShloMosaic Idealize.ShloMosaic.ValueIdx Idealize.ShloMosaic.StableHlo.Predicate

/-! ## The sort -/

/-- The sort's comparison is "less" on the keys. -/
theorem before_iff (l r : Ideal .f32 × BitVec 32) :
    (comparator_f32_i32_d1 l r == 1#1) = decide ((l.1 : EReal) < r.1) := by
  have same (a : EReal) : Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32)) (FloatOps.ofBits .f32 0x00000000#32 : Ideal .f32) a) = a := by
    have z : (FloatOps.ofBits .f32 0x00000000#32 : Ideal .f32) = (0 : EReal) := Ideal.ofBits_zero_f32
    rw [Ideal.cmpf_def, Ideal.cmpf_def, z]
    by_cases e : a = 0
    · rw [e]; simp [Ideal.cmp, Scalar.select]
    · simp [Ideal.cmp, Scalar.select, e]
  have e : comparator_f32_i32_d1 l r = BitVec.ofBool (decide ((l.1 : EReal) < r.1)) := by
    unfold comparator_f32_i32_d1
    simp only [same]
    rfl
  rw [e]
  cases decide ((l.1 : EReal) < r.1) <;> rfl

variable (x : FVec Ideal (Wide 16384) .f32) (i : Fin 1024)

/-- Where the entry at each place of the sorted row `i` comes from. -/
def place : Fin 16384 → Fin 16384 := sortedFrom fun k k' => decide (-(x (ix2 i k) : EReal) < -(x (ix2 i k') : EReal))

theorem along_ix2 {n : ℕ} (k k' : Fin n) : (ix2 i k : (Wide n).Idx).along (1 : Fin 2) k' = ix2 i k' := by
  funext a
  match a with
  | ⟨0, _⟩ => rfl
  | ⟨1, _⟩ => rfl

/-- A sort of pairs along the rows, read at row `i`, column `k`: its second components. -/
theorem sort_apply {α β : Type} {n : ℕ} (cmp : α × β → α × β → BitVec 1) (u : (Wide n).Idx → α) (v : (Wide n).Idx → β) (k : Fin n) :
    (Host.sort2 (Wide n) 1 cmp u v).2 (ix2 i k)
      = v (ix2 i (sortedFrom (fun a b : Fin n => cmp (u (ix2 i a), v (ix2 i a)) (u (ix2 i b), v (ix2 i b)) == 1#1) k)) := by
  have at_ (al : Fin n → (Wide n).Idx) (e : al = fun a => ix2 i a) :
      v (al (sortedFrom (fun a b : Fin n => cmp (u (al a), v (al a)) (u (al b), v (al b)) == 1#1) k))
        = v (ix2 i (sortedFrom (fun a b : Fin n => cmp (u (ix2 i a), v (ix2 i a)) (u (ix2 i b), v (ix2 i b)) == 1#1) k)) := by
    subst e; rfl
  exact at_ (fun a => (ix2 i k : (Wide n).Idx).along (1 : Fin 2) a) (funext fun a => along_ix2 i k a)

/-- The sort of the positions, read at row `i`, column `k`. -/
theorem argsort_apply (k : Fin 16384) : fn_argsort (Host.negf x) (ix2 i k) = BitVec.ofNat 32 (place x i k).val := by
  unfold fn_argsort place
  refine (sort_apply i comparator_f32_i32_d1 (Host.negf x) (iotaInDim S1024x16384 32 1) k).trans ?_
  simp only [before_iff]
  rfl

/-- Row `i` in the sorted order. -/
def falling (k : Fin 16384) : EReal := x (ix2 i (place x i k))

/-- The sorted row falls. -/
theorem falling_anti : Antitone (falling x i) := by
  classical
  intro a b hab
  rcases hab.eq_or_lt with rfl | hab
  · exact le_refl _
  have := sortedFrom_noInversion (fun k k' : Fin 16384 => decide (-(x (ix2 i k) : EReal) < -(x (ix2 i k') : EReal)))
    (fun k k' : Fin 16384 => decide (-(x (ix2 i k) : EReal) < -(x (ix2 i k') : EReal)))
    (fun p q h => by simp only [decide_eq_true_eq, decide_eq_false_iff_not] at h ⊢; exact h.le.not_gt)
    (fun _ _ h => h)
    (fun p q r h h' => by simp only [decide_eq_false_iff_not, not_lt] at h h' ⊢; exact h'.trans h)
    a b hab
  simp only [decide_eq_false_iff_not, not_lt, EReal.neg_le_neg_iff] at this
  unfold falling place
  convert this

/-- The sorted row has the row's values. -/
theorem mem_falling (s : EReal) : s ∈ row x i ↔ ∃ k, falling x i k = s := by
  rw [mem_row]
  constructor
  · rintro ⟨j, rfl⟩
    obtain ⟨k, hk⟩ := sortedFrom_surjective _ j
    exact ⟨k, congrArg (fun q => (x (ix2 i q) : EReal)) hk⟩
  · rintro ⟨k, rfl⟩; exact ⟨_, rfl⟩

/-! ## Picking by position -/

/-- The gather, read at row `i`, column `k`: the entry of row `i` at the given position. -/
theorem gather_apply (idx : IVec S1024x32x1 32) (k : Fin 32) (p : Fin 16384) (hp : idx (ix3 i k (0 : Fin 1)) = BitVec.ofNat 32 p.val) :
    Host.gather gather_S1024x16384_S1024x32x1_S1024x32_n_1_0_0_1_2_11 x idx (ix2 i k) = x (ix2 i p) := by
  unfold Host.gather
  refine congrArg x (funext fun a => Fin.ext ?_)
  match a with
  | ⟨0, _⟩ =>
    show 0 + i.val + 0 = i.val
    omega
  | ⟨1, _⟩ =>
    have e (c) : gather_S1024x16384_S1024x32x1_S1024x32_n_1_0_0_1_2_11.siIdx (ix2 i k) c = ix3 i k (0 : Fin 1) := by
      funext b
      apply Fin.ext
      match b with
      | ⟨0, _⟩ => rfl
      | ⟨1, _⟩ => rfl
      | ⟨2, _⟩ => show c.val = 0; have : c.val < 1 := c.isLt; omega
    show min (idx (gather_S1024x16384_S1024x32x1_S1024x32_n_1_0_0_1_2_11.siIdx (ix2 i k) ⟨0, Nat.one_pos⟩)).toInt.toNat (16384 - 1) + 0 + 0 = p.val
    rw [e, hp, toInt_ofNat_small _ (by have := p.isLt; omega)]
    have := p.isLt
    simp only [Int.toNat_natCast]
    omega

/-- Positions in range are neither wrapped nor refused: the entries at them are picked. -/
theorem take_apply (idx : IVec S1024x32 32) (P : Fin 1024 → Fin 32 → Fin 16384) (hP : ∀ i k, idx (ix2 i k) = BitVec.ofNat 32 (P i k).val)
    (k : Fin 32) : fn_take_along_axis x idx (ix2 i k) = x (ix2 i (P i k)) := by
  have small (p : Fin 16384) : (BitVec.ofNat 32 p.val).toNat = p.val := by
    have := p.isLt
    rw [BitVec.toNat_ofNat]; omega
  -- the positions after the wrap, each as a list of one
  let v : IVec S1024x32x1 32 := shapeCast S1024x32x1 (select (cmpi .slt idx (broadcastInDim S1024x32 ![] bcast_S_S1024x32 (constantI S_ 32 0#32)))
    (addi idx (broadcastInDim S1024x32 ![] bcast_S_S1024x32 (constantI S_ 32 16384#32))) idx) shapeCasts_S1024x32_S1024x32x1
  have at_v (i : Fin 1024) (k : Fin 32) : v (ix3 i k (0 : Fin 1)) = BitVec.ofNat 32 (P i k).val := by
    show shapeCast S1024x32x1 _ shapeCasts_S1024x32_S1024x32x1 (ix3 i k (0 : Fin 1)) = _
    rw [shapeCast_apply _ _ _ (ix2 i k) (by
      rw [Shape.rowMajor_val_three, Shape.rowMajor_val_two]
      show i.val * 32 + k.val = (i.val * 32 + k.val) * 1 + 0
      omega)]
    show Scalar.select (IntOp.cmpi .slt (idx (ix2 i k)) 0#32) _ (idx (ix2 i k)) = _
    have no : ¬ IntOp.cmpi .slt (idx (ix2 i k)) 0#32 = 1#1 := by
      have := (P i k).isLt
      rw [hP, slt_iff_toNat (by rw [small]; omega) (by decide)]
      exact Nat.not_lt_zero _
    rw [eq_zero_of_ne_one no, select_zero, hP]
  have all : Host.reduce IntOp.andi (andi (cmpi .sge v (broadcastInDim S1024x32x1 ![] bcast_S_S1024x32x1 (constantI S_ 32 0#32)))
        (cmpi .sle v (broadcastInDim S1024x32x1 ![0, 1, 2] bcast_S1x1x1_S1024x32x1_0_1_2
          (broadcastInDim S1x1x1 ![2] bcast_S1_S1x1x1_2 (constantI S1 32 16383#32))))) (constantI S_ 1 1#1)
        reducesTo_S1024x32x1_S1024x32_d2 h_S_ (ix2 i k) = 1#1 := by
    refine Host.reduce_andi_one _ _ _ _ _ rfl fun q => ?_
    obtain ⟨i, k, rfl⟩ : ∃ (i : Fin 1024) (k : Fin 32), q = ix3 i k (0 : Fin 1) := by
      refine ⟨q 0, q 1, funext fun a => Fin.ext ?_⟩
      match a with
      | ⟨0, _⟩ => rfl
      | ⟨1, _⟩ => rfl
      | ⟨2, _⟩ => show (q 2).val = 0; have : (q 2).val < 1 := (q 2).isLt; omega
    show IntOp.andi (IntOp.cmpi .sge (v (ix3 i k (0 : Fin 1))) 0#32) (IntOp.cmpi .sle (v (ix3 i k (0 : Fin 1))) 16383#32) = 1#1
    have := (P i k).isLt
    rw [at_v, (sge_iff_toNat (by rw [small]; omega) (by decide)).mpr (Nat.zero_le _),
      (sle_iff_toNat (by rw [small]; omega) (by decide)).mpr (by rw [small]; show (P i k).val ≤ 16383; omega)]
    rfl
  have term : fn_take_along_axis x idx = select (Host.reduce IntOp.andi (andi (cmpi .sge v (broadcastInDim S1024x32x1 ![] bcast_S_S1024x32x1 (constantI S_ 32 0#32)))
        (cmpi .sle v (broadcastInDim S1024x32x1 ![0, 1, 2] bcast_S1x1x1_S1024x32x1_0_1_2
          (broadcastInDim S1x1x1 ![2] bcast_S1_S1x1x1_2 (constantI S1 32 16383#32))))) (constantI S_ 1 1#1)
        reducesTo_S1024x32x1_S1024x32_d2 h_S_)
      (Host.gather gather_S1024x16384_S1024x32x1_S1024x32_n_1_0_0_1_2_11 x v)
      (broadcastInDim S1024x32 ![] bcast_S_S1024x32 (constant S_ .f32 0x7FC00000#32)) := rfl
  rw [term, select_apply]
  rw [all, select_one]
  exact gather_apply x i v k (P i k) (at_v i k)

/-- What the reference returns: the entries at the first 32 sorted positions. -/
def picked : FVec Ideal S1024x32 .f32 :=
  fn_take_along_axis x (extractStridedSlice S1024x32 ![0, 0] (fn_argsort (Host.negf x)) slices_S1024x16384_S1024x32_0_0)

/-- It is the sorted row, cut at 32. -/
theorem picked_apply (k : Fin 32) : picked x (ix2 i k) = falling x i ⟨k.val, by have := k.isLt; omega⟩ := by
  unfold picked falling
  refine take_apply x i _ (fun i k => place x i ⟨k.val, by have := k.isLt; omega⟩) (fun i k => ?_) k
  rw [extractStridedSlice_apply ![0, 0] _ _ _ (ix2 i ⟨k.val, by have := k.isLt; omega⟩ : (Wide 16384).Idx) (fun a => by
    match a with
    | ⟨0, _⟩ => show i.val = 0 + i.val; omega
    | ⟨1, _⟩ => show k.val = 0 + k.val; omega)]
  exact argsort_apply x i ⟨k.val, by have := k.isLt; omega⟩

/-! ## The mask -/

/-- A left fold by "or" that came out 0 met only 0s. -/
theorem fold_or_zero {ι : Type} (f : ι → BitVec 1) : ∀ (l : List ι) (b : BitVec 1),
    l.foldl (fun r q => IntOp.ori r (f q)) b = 0#1 → b = 0#1 ∧ ∀ q ∈ l, f q = 0#1
  | [], b, h => ⟨h, fun _ hq => absurd hq List.not_mem_nil⟩
  | a :: l, b, h => by
    obtain ⟨hb, hl⟩ := fold_or_zero f l _ h
    have both : ∀ u v : BitVec 1, IntOp.ori u v = 0#1 → u = 0#1 ∧ v = 0#1 := by decide
    obtain ⟨hb, ha⟩ := both _ _ hb
    exact ⟨hb, fun q hq => (List.mem_cons.mp hq).elim (fun e => e ▸ ha) (hl q)⟩

/-- Where the mask is 1, no two neighbours up to that column are equal. -/
theorem untied_apply (k : Fin 32) (hk : Cert.On_untied.fn x (ix2 i k) = 1#1) (h : ℕ) (hh : h + 1 ≤ k.val) :
    falling x i ⟨h, by have := k.isLt; omega⟩ ≠ falling x i ⟨h + 1, by have := k.isLt; omega⟩ := by
  have := k.isLt
  intro tie
  let eqs : IVec S1024x31 1 := cmpf .oeq (extractStridedSlice S1024x31 ![0, 0] (picked x) slices_S1024x32_S1024x31_0_0)
    (extractStridedSlice S1024x31 ![0, 1] (picked x) slices_S1024x32_S1024x31_0_1)
  let ties : IVec S1024x32x31 1 := andi (cmpi .slt (iotaInDim S1024x32x31 32 2) (iotaInDim S1024x32x31 32 1))
    (broadcastInDim S1024x32x31 ![0, 1, 2] bcast_S1024x1x31_S1024x32x31_0_1_2 (broadcastInDim S1024x1x31 ![0, 2] bcast_S1024x31_S1024x1x31_0_2 eqs))
  have none : Host.reduce IntOp.ori ties (constantI S_ 1 0#1) reducesTo_S1024x32x31_S1024x32_d2 h_S_ (ix2 i k) = 0#1 := by
    have flip : ∀ b : BitVec 1, ~~~b = 1#1 → b = 0#1 := by decide
    exact flip _ hk
  rw [Host.reduce_eq_foldl] at none
  have zero := (fold_or_zero ties _ _ none).2 (ix3 i k (⟨h, by omega⟩ : Fin 31)) (by
    rw [List.mem_filter]
    refine ⟨List.mem_map.2 ⟨S1024x32x31.rowMajor _, List.mem_finRange _, Equiv.symm_apply_apply _ _⟩, ?_⟩
    rw [decide_eq_true_eq]
    funext a
    match a with
    | ⟨0, _⟩ => rfl
    | ⟨1, _⟩ => rfl)
  have one : eqs (ix2 i (⟨h, by omega⟩ : Fin 31)) = 1#1 := by
    show FloatOps.cmpf .oeq (extractStridedSlice S1024x31 ![0, 0] (picked x) slices_S1024x32_S1024x31_0_0 (ix2 i (⟨h, by omega⟩ : Fin 31)))
      (extractStridedSlice S1024x31 ![0, 1] (picked x) slices_S1024x32_S1024x31_0_1 (ix2 i (⟨h, by omega⟩ : Fin 31))) = 1#1
    rw [extractStridedSlice_apply ![0, 0] _ _ _ (ix2 i ⟨h, by omega⟩ : S1024x32.Idx) (fun a => by
        match a with
        | ⟨0, _⟩ => show i.val = 0 + i.val; omega
        | ⟨1, _⟩ => show h = 0 + h; omega),
      extractStridedSlice_apply ![0, 1] _ _ _ (ix2 i ⟨h + 1, by omega⟩ : S1024x32.Idx) (fun a => by
        match a with
        | ⟨0, _⟩ => show i.val = 0 + i.val; omega
        | ⟨1, _⟩ => show h + 1 = 1 + h; omega),
      picked_apply, picked_apply, Ideal.cmpf_def]
    simp [Ideal.cmp, tie]
  have less : IntOp.cmpi .slt (BitVec.ofNat 32 h) (BitVec.ofNat 32 k.val) = 1#1 :=
    (slt_ofNat_iff h k.val (by omega) (by omega)).mpr hh
  have spread : ties (ix3 i k (⟨h, by omega⟩ : Fin 31))
      = IntOp.andi (IntOp.cmpi .slt (BitVec.ofNat 32 h) (BitVec.ofNat 32 k.val)) (eqs (ix2 i (⟨h, by omega⟩ : Fin 31))) := by
    refine congrArg (IntOp.andi _) ?_
    rw [broadcastInDim_apply _ _ _ _ (ix3 i (0 : Fin 1) (⟨h, by omega⟩ : Fin 31)) (fun a => by
        match a with
        | ⟨0, _⟩ => rfl
        | ⟨1, _⟩ => rfl
        | ⟨2, _⟩ => rfl),
      broadcastInDim_apply _ _ _ _ (ix2 i (⟨h, by omega⟩ : Fin 31)) (fun a => by
        match a with
        | ⟨0, _⟩ => rfl
        | ⟨1, _⟩ => rfl)]
  rw [spread, less, one] at zero
  exact absurd zero (by decide)

/-- Where the mask is 1, the reference's entry is the row's `k`-th greatest distinct value. -/
theorem picked_untied (k : Fin 32) (hk : Cert.On_untied.fn x (ix2 i k) = 1#1) : picked x (ix2 i k) = nth (row x i) k.val := by
  rw [picked_apply]
  exact nth_falling (falling x i) (falling_anti x i) (row x i) (mem_falling x i) k.val _ (untied_apply x i k hk)

end Cert.TopK

end
-- ==== Proof.Agree.lean ====
/-
# The kernel and the reference agree

On every device the idealized kernel ends with the greatest distinct values of every row, in falling order; the idealized
reference ends with the greatest entries. Where the mask is 1 the two are the same value.
-/
module

public import proofs.«01_k».proof.Proof.Frames
public import proofs.«01_k».proof.Proof.Whole
public import proofs.«01_k».proof.Proof.Sorted

@[expose] public section

noncomputable section

namespace Cert.TopK

open Idealize.ShloMosaic Idealize.ShloMosaic.TcCoe Idealize.SL.Sem

/-- The reference ends with `picked` of its argument, and with its argument unchanged. -/
theorem reference_ends (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v3)
          = picked (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run _ _ _).mono (fun _ h c => ⟨(h c).1.trans rfl, (h c).2⟩) (Cert.ReferenceIdeal.Value.run m ρ)

/-- Both programs end with the same result wherever the mask is 1. -/
theorem agree : Cert.algebraic_KernelIdeal_ReferenceIdeal_on_untied := by
  intro m g m' g' _ blocks
  -- a device's half starts at column 0 or 8192 of the whole array
  have halves (c : Dev Cert.KernelIdeal.nD) (i : Fin 1024) (p : Fin 8192) (q : Fin 16384) (hq : q.val = 8192 * (c.val % 2) + p.val) :
      held m c (ValueIdx.ix2 i p)
        = m' (((0 : Dev Cert.ReferenceIdeal.nD).tc : Thread Cert.ReferenceIdeal.nD Cert.ReferenceIdeal.τ).loc Cert.ReferenceIdeal.main_arg0) (ValueIdx.ix2 i q) := by
    unfold held
    rw [blocks c, Layout.blockN_apply]
    refine congrArg (m' _) (funext fun a => Fin.ext ?_)
    rw [Layout.TilesN.idx_val, Layout.meshBlock_val]
    match a with
    | ⟨0, _⟩ => show 0 * 1024 + i.val = i.val; omega
    | ⟨1, _⟩ =>
      show ((c.val / 1) % 2 * 1 + 0) * 8192 + p.val = q.val
      omega
  refine ⟨picked (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨fun i hi => ?_, (h.1 c).2⟩) (ends m g)
    rw [(h.1 c).1]
    obtain ⟨a, b, rfl⟩ : ∃ (a : Fin 1024) (b : Fin 32), i = ValueIdx.ix2 a b := ⟨i 0, i 1, ValueIdx.eq_ix2 i⟩
    exact (outAt_apply m _ halves c a b).trans (picked_untied _ a b hi).symm
  · exact (θ_run _ _ _).mono (fun r h => ⟨fun i _ => by rw [(h 0).1], (h 0).2⟩) (reference_ends m' g')

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import proofs.«01_k».proof.Proof.Gen.On_untied
public import Idealize.ShloMosaic.Adequacy
public import Idealize.ShloMosaic.Init

@[expose] public section

noncomputable section

namespace Cert.Proof

open Idealize.ShloMosaic Idealize.SL.Sem Cert.Kernel

/-- The claims, each proved in its module. -/
theorem claim : Cert.Claim := ⟨Cert.Kernel.Gen.facts, Cert.KernelIdeal.Gen.facts, Cert.ReferenceIdeal.Gen.facts, Cert.On_untied.Gen.facts,
  Cert.TopK.frame_kernel, Cert.TopK.frame_ideal, Cert.TopK.frame_reference, trivial, Cert.TopK.agree⟩

end Cert.Proof

end
